-- ==== Defs.lean ====
def Pre_Kernel [hPre_pi_is_0123_Kernel : Cert.Pre_pi_is_0123_Kernel.Facts] (m : (ℓ : Loc Cert.Kernel.nD Cert.Kernel.τ Cert.Kernel.sig) → Buf (Elt Bits) ℓ) : Prop :=
  ∀ c : Dev Cert.Kernel.nD,
    (Cert.Pre_pi_is_0123_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_0132_Kernel [hPre_pi_is_0132_Kernel : Cert.Pre_pi_is_0132_Kernel.Facts] (m : (ℓ : Loc Cert.Kernel.nD Cert.Kernel.τ Cert.Kernel.sig) → Buf (Elt Bits) ℓ) : Prop :=
  ∀ c : Dev Cert.Kernel.nD,
    (Cert.Pre_pi_is_0132_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_0213_Kernel [hPre_pi_is_0213_Kernel : Cert.Pre_pi_is_0213_Kernel.Facts] (m : (ℓ : Loc Cert.Kernel.nD Cert.Kernel.τ Cert.Kernel.sig) → Buf (Elt Bits) ℓ) : Prop :=
  ∀ c : Dev Cert.Kernel.nD,
    (Cert.Pre_pi_is_0213_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_0231_Kernel [hPre_pi_is_0231_Kernel : Cert.Pre_pi_is_0231_Kernel.Facts] (m : (ℓ : Loc Cert.Kernel.nD Cert.Kernel.τ Cert.Kernel.sig) → Buf (Elt Bits) ℓ) : Prop :=
  ∀ c : Dev Cert.Kernel.nD,
    (Cert.Pre_pi_is_0231_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_0312_Kernel [hPre_pi_is_0312_Kernel : Cert.Pre_pi_is_0312_Kernel.Facts] (m : (ℓ : Loc Cert.Kernel.nD Cert.Kernel.τ Cert.Kernel.sig) → Buf (Elt Bits) ℓ) : Prop :=
  ∀ c : Dev Cert.Kernel.nD,
    (Cert.Pre_pi_is_0312_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_0321_Kernel [hPre_pi_is_0321_Kernel : Cert.Pre_pi_is_0321_Kernel.Facts] (m : (ℓ : Loc Cert.Kernel.nD Cert.Kernel.τ Cert.Kernel.sig) → Buf (Elt Bits) ℓ) : Prop :=
  ∀ c : Dev Cert.Kernel.nD,
    (Cert.Pre_pi_is_0321_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_1023_Kernel [hPre_pi_is_1023_Kernel : Cert.Pre_pi_is_1023_Kernel.Facts] (m : (ℓ : Loc Cert.Kernel.nD Cert.Kernel.τ Cert.Kernel.sig) → Buf (Elt Bits) ℓ) : Prop :=
  ∀ c : Dev Cert.Kernel.nD,
    (Cert.Pre_pi_is_1023_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_1032_Kernel [hPre_pi_is_1032_Kernel : Cert.Pre_pi_is_1032_Kernel.Facts] (m : (ℓ : Loc Cert.Kernel.nD Cert.Kernel.τ Cert.Kernel.sig) → Buf (Elt Bits) ℓ) : Prop :=
  ∀ c : Dev Cert.Kernel.nD,
    (Cert.Pre_pi_is_1032_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_1203_Kernel [hPre_pi_is_1203_Kernel : Cert.Pre_pi_is_1203_Kernel.Facts] (m : (ℓ : Loc Cert.Kernel.nD Cert.Kernel.τ Cert.Kernel.sig) → Buf (Elt Bits) ℓ) : Prop :=
  ∀ c : Dev Cert.Kernel.nD,
    (Cert.Pre_pi_is_1203_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_1230_Kernel [hPre_pi_is_1230_Kernel : Cert.Pre_pi_is_1230_Kernel.Facts] (m : (ℓ : Loc Cert.Kernel.nD Cert.Kernel.τ Cert.Kernel.sig) → Buf (Elt Bits) ℓ) : Prop :=
  ∀ c : Dev Cert.Kernel.nD,
    (Cert.Pre_pi_is_1230_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_1302_Kernel [hPre_pi_is_1302_Kernel : Cert.Pre_pi_is_1302_Kernel.Facts] (m : (ℓ : Loc Cert.Kernel.nD Cert.Kernel.τ Cert.Kernel.sig) → Buf (Elt Bits) ℓ) : Prop :=
  ∀ c : Dev Cert.Kernel.nD,
    (Cert.Pre_pi_is_1302_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_1320_Kernel [hPre_pi_is_1320_Kernel : Cert.Pre_pi_is_1320_Kernel.Facts] (m : (ℓ : Loc Cert.Kernel.nD Cert.Kernel.τ Cert.Kernel.sig) → Buf (Elt Bits) ℓ) : Prop :=
  ∀ c : Dev Cert.Kernel.nD,
    (Cert.Pre_pi_is_1320_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_2013_Kernel [hPre_pi_is_2013_Kernel : Cert.Pre_pi_is_2013_Kernel.Facts] (m : (ℓ : Loc Cert.Kernel.nD Cert.Kernel.τ Cert.Kernel.sig) → Buf (Elt Bits) ℓ) : Prop :=
  ∀ c : Dev Cert.Kernel.nD,
    (Cert.Pre_pi_is_2013_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_2031_Kernel [hPre_pi_is_2031_Kernel : Cert.Pre_pi_is_2031_Kernel.Facts] (m : (ℓ : Loc Cert.Kernel.nD Cert.Kernel.τ Cert.Kernel.sig) → Buf (Elt Bits) ℓ) : Prop :=
  ∀ c : Dev Cert.Kernel.nD,
    (Cert.Pre_pi_is_2031_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_2103_Kernel [hPre_pi_is_2103_Kernel : Cert.Pre_pi_is_2103_Kernel.Facts] (m : (ℓ : Loc Cert.Kernel.nD Cert.Kernel.τ Cert.Kernel.sig) → Buf (Elt Bits) ℓ) : Prop :=
  ∀ c : Dev Cert.Kernel.nD,
    (Cert.Pre_pi_is_2103_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_2130_Kernel [hPre_pi_is_2130_Kernel : Cert.Pre_pi_is_2130_Kernel.Facts] (m : (ℓ : Loc Cert.Kernel.nD Cert.Kernel.τ Cert.Kernel.sig) → Buf (Elt Bits) ℓ) : Prop :=
  ∀ c : Dev Cert.Kernel.nD,
    (Cert.Pre_pi_is_2130_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_2301_Kernel [hPre_pi_is_2301_Kernel : Cert.Pre_pi_is_2301_Kernel.Facts] (m : (ℓ : Loc Cert.Kernel.nD Cert.Kernel.τ Cert.Kernel.sig) → Buf (Elt Bits) ℓ) : Prop :=
  ∀ c : Dev Cert.Kernel.nD,
    (Cert.Pre_pi_is_2301_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_2310_Kernel [hPre_pi_is_2310_Kernel : Cert.Pre_pi_is_2310_Kernel.Facts] (m : (ℓ : Loc Cert.Kernel.nD Cert.Kernel.τ Cert.Kernel.sig) → Buf (Elt Bits) ℓ) : Prop :=
  ∀ c : Dev Cert.Kernel.nD,
    (Cert.Pre_pi_is_2310_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_3012_Kernel [hPre_pi_is_3012_Kernel : Cert.Pre_pi_is_3012_Kernel.Facts] (m : (ℓ : Loc Cert.Kernel.nD Cert.Kernel.τ Cert.Kernel.sig) → Buf (Elt Bits) ℓ) : Prop :=
  ∀ c : Dev Cert.Kernel.nD,
    (Cert.Pre_pi_is_3012_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_3021_Kernel [hPre_pi_is_3021_Kernel : Cert.Pre_pi_is_3021_Kernel.Facts] (m : (ℓ : Loc Cert.Kernel.nD Cert.Kernel.τ Cert.Kernel.sig) → Buf (Elt Bits) ℓ) : Prop :=
  ∀ c : Dev Cert.Kernel.nD,
    (Cert.Pre_pi_is_3021_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_3102_Kernel [hPre_pi_is_3102_Kernel : Cert.Pre_pi_is_3102_Kernel.Facts] (m : (ℓ : Loc Cert.Kernel.nD Cert.Kernel.τ Cert.Kernel.sig) → Buf (Elt Bits) ℓ) : Prop :=
  ∀ c : Dev Cert.Kernel.nD,
    (Cert.Pre_pi_is_3102_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_3120_Kernel [hPre_pi_is_3120_Kernel : Cert.Pre_pi_is_3120_Kernel.Facts] (m : (ℓ : Loc Cert.Kernel.nD Cert.Kernel.τ Cert.Kernel.sig) → Buf (Elt Bits) ℓ) : Prop :=
  ∀ c : Dev Cert.Kernel.nD,
    (Cert.Pre_pi_is_3120_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_3201_Kernel [hPre_pi_is_3201_Kernel : Cert.Pre_pi_is_3201_Kernel.Facts] (m : (ℓ : Loc Cert.Kernel.nD Cert.Kernel.τ Cert.Kernel.sig) → Buf (Elt Bits) ℓ) : Prop :=
  ∀ c : Dev Cert.Kernel.nD,
    (Cert.Pre_pi_is_3201_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_3210_Kernel [hPre_pi_is_3210_Kernel : Cert.Pre_pi_is_3210_Kernel.Facts] (m : (ℓ : Loc Cert.Kernel.nD Cert.Kernel.τ Cert.Kernel.sig) → Buf (Elt Bits) ℓ) : Prop :=
  ∀ c : Dev Cert.Kernel.nD,
    (Cert.Pre_pi_is_3210_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_pi_is_0123_Kernel : Cert.Pre_pi_is_0123_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_0123_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_0132_Kernel [hPre_pi_is_0132_Kernel : Cert.Pre_pi_is_0132_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_0132_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_0213_Kernel [hPre_pi_is_0213_Kernel : Cert.Pre_pi_is_0213_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_0213_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_0231_Kernel [hPre_pi_is_0231_Kernel : Cert.Pre_pi_is_0231_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_0231_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_0312_Kernel [hPre_pi_is_0312_Kernel : Cert.Pre_pi_is_0312_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_0312_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_0321_Kernel [hPre_pi_is_0321_Kernel : Cert.Pre_pi_is_0321_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_0321_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_1023_Kernel [hPre_pi_is_1023_Kernel : Cert.Pre_pi_is_1023_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_1023_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_1032_Kernel [hPre_pi_is_1032_Kernel : Cert.Pre_pi_is_1032_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_1032_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_1203_Kernel [hPre_pi_is_1203_Kernel : Cert.Pre_pi_is_1203_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_1203_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_1230_Kernel [hPre_pi_is_1230_Kernel : Cert.Pre_pi_is_1230_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_1230_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_1302_Kernel [hPre_pi_is_1302_Kernel : Cert.Pre_pi_is_1302_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_1302_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_1320_Kernel [hPre_pi_is_1320_Kernel : Cert.Pre_pi_is_1320_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_1320_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_2013_Kernel [hPre_pi_is_2013_Kernel : Cert.Pre_pi_is_2013_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_2013_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_2031_Kernel [hPre_pi_is_2031_Kernel : Cert.Pre_pi_is_2031_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_2031_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_2103_Kernel [hPre_pi_is_2103_Kernel : Cert.Pre_pi_is_2103_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_2103_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_2130_Kernel [hPre_pi_is_2130_Kernel : Cert.Pre_pi_is_2130_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_2130_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_2301_Kernel [hPre_pi_is_2301_Kernel : Cert.Pre_pi_is_2301_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_2301_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_2310_Kernel [hPre_pi_is_2310_Kernel : Cert.Pre_pi_is_2310_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_2310_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_3012_Kernel [hPre_pi_is_3012_Kernel : Cert.Pre_pi_is_3012_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_3012_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_3021_Kernel [hPre_pi_is_3021_Kernel : Cert.Pre_pi_is_3021_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_3021_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_3102_Kernel [hPre_pi_is_3102_Kernel : Cert.Pre_pi_is_3102_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_3102_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_3120_Kernel [hPre_pi_is_3120_Kernel : Cert.Pre_pi_is_3120_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_3120_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_3201_Kernel [hPre_pi_is_3201_Kernel : Cert.Pre_pi_is_3201_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_3201_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_3210_Kernel [hPre_pi_is_3210_Kernel : Cert.Pre_pi_is_3210_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_3210_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pi_is_0123_ReferenceIdeal [hPre_pi_is_0123_ReferenceIdeal : Cert.Pre_pi_is_0123_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_0123_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_0132_ReferenceIdeal [hPre_pi_is_0132_ReferenceIdeal : Cert.Pre_pi_is_0132_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_0132_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_0213_ReferenceIdeal [hPre_pi_is_0213_ReferenceIdeal : Cert.Pre_pi_is_0213_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_0213_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_0231_ReferenceIdeal [hPre_pi_is_0231_ReferenceIdeal : Cert.Pre_pi_is_0231_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_0231_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_0312_ReferenceIdeal [hPre_pi_is_0312_ReferenceIdeal : Cert.Pre_pi_is_0312_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_0312_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_0321_ReferenceIdeal [hPre_pi_is_0321_ReferenceIdeal : Cert.Pre_pi_is_0321_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_0321_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_1023_ReferenceIdeal [hPre_pi_is_1023_ReferenceIdeal : Cert.Pre_pi_is_1023_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_1023_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_1032_ReferenceIdeal [hPre_pi_is_1032_ReferenceIdeal : Cert.Pre_pi_is_1032_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_1032_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_1203_ReferenceIdeal [hPre_pi_is_1203_ReferenceIdeal : Cert.Pre_pi_is_1203_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_1203_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_1230_ReferenceIdeal [hPre_pi_is_1230_ReferenceIdeal : Cert.Pre_pi_is_1230_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_1230_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_1302_ReferenceIdeal [hPre_pi_is_1302_ReferenceIdeal : Cert.Pre_pi_is_1302_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_1302_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_1320_ReferenceIdeal [hPre_pi_is_1320_ReferenceIdeal : Cert.Pre_pi_is_1320_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_1320_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_2013_ReferenceIdeal [hPre_pi_is_2013_ReferenceIdeal : Cert.Pre_pi_is_2013_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_2013_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_2031_ReferenceIdeal [hPre_pi_is_2031_ReferenceIdeal : Cert.Pre_pi_is_2031_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_2031_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_2103_ReferenceIdeal [hPre_pi_is_2103_ReferenceIdeal : Cert.Pre_pi_is_2103_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_2103_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_2130_ReferenceIdeal [hPre_pi_is_2130_ReferenceIdeal : Cert.Pre_pi_is_2130_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_2130_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_2301_ReferenceIdeal [hPre_pi_is_2301_ReferenceIdeal : Cert.Pre_pi_is_2301_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_2301_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_2310_ReferenceIdeal [hPre_pi_is_2310_ReferenceIdeal : Cert.Pre_pi_is_2310_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_2310_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_3012_ReferenceIdeal [hPre_pi_is_3012_ReferenceIdeal : Cert.Pre_pi_is_3012_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_3012_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_3021_ReferenceIdeal [hPre_pi_is_3021_ReferenceIdeal : Cert.Pre_pi_is_3021_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_3021_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_3102_ReferenceIdeal [hPre_pi_is_3102_ReferenceIdeal : Cert.Pre_pi_is_3102_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_3102_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_3120_ReferenceIdeal [hPre_pi_is_3120_ReferenceIdeal : Cert.Pre_pi_is_3120_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_3120_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_3201_ReferenceIdeal [hPre_pi_is_3201_ReferenceIdeal : Cert.Pre_pi_is_3201_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_3201_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_3210_ReferenceIdeal [hPre_pi_is_3210_ReferenceIdeal : Cert.Pre_pi_is_3210_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_3210_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_pi_is_0123_Kernel : Cert.Pre_pi_is_0123_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_0132_Kernel [hKernel : Cert.Kernel.Facts] [hPre_pi_is_0132_Kernel : Cert.Pre_pi_is_0132_Kernel.Facts] : Prop :=
  ∀ (m : (ℓ : Loc Cert.Kernel.nD Cert.Kernel.τ Cert.Kernel.sig) → Buf (Elt Bits) ℓ) (g : Dev Cert.Kernel.nD → PrngReg), Pre_Kernel_pi_is_0132_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_0213_Kernel [hKernel : Cert.Kernel.Facts] [hPre_pi_is_0213_Kernel : Cert.Pre_pi_is_0213_Kernel.Facts] : Prop :=
  ∀ (m : (ℓ : Loc Cert.Kernel.nD Cert.Kernel.τ Cert.Kernel.sig) → Buf (Elt Bits) ℓ) (g : Dev Cert.Kernel.nD → PrngReg), Pre_Kernel_pi_is_0213_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_0231_Kernel [hKernel : Cert.Kernel.Facts] [hPre_pi_is_0231_Kernel : Cert.Pre_pi_is_0231_Kernel.Facts] : Prop :=
  ∀ (m : (ℓ : Loc Cert.Kernel.nD Cert.Kernel.τ Cert.Kernel.sig) → Buf (Elt Bits) ℓ) (g : Dev Cert.Kernel.nD → PrngReg), Pre_Kernel_pi_is_0231_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_0312_Kernel [hKernel : Cert.Kernel.Facts] [hPre_pi_is_0312_Kernel : Cert.Pre_pi_is_0312_Kernel.Facts] : Prop :=
  ∀ (m : (ℓ : Loc Cert.Kernel.nD Cert.Kernel.τ Cert.Kernel.sig) → Buf (Elt Bits) ℓ) (g : Dev Cert.Kernel.nD → PrngReg), Pre_Kernel_pi_is_0312_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_0321_Kernel [hKernel : Cert.Kernel.Facts] [hPre_pi_is_0321_Kernel : Cert.Pre_pi_is_0321_Kernel.Facts] : Prop :=
  ∀ (m : (ℓ : Loc Cert.Kernel.nD Cert.Kernel.τ Cert.Kernel.sig) → Buf (Elt Bits) ℓ) (g : Dev Cert.Kernel.nD → PrngReg), Pre_Kernel_pi_is_0321_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_1023_Kernel [hKernel : Cert.Kernel.Facts] [hPre_pi_is_1023_Kernel : Cert.Pre_pi_is_1023_Kernel.Facts] : Prop :=
  ∀ (m : (ℓ : Loc Cert.Kernel.nD Cert.Kernel.τ Cert.Kernel.sig) → Buf (Elt Bits) ℓ) (g : Dev Cert.Kernel.nD → PrngReg), Pre_Kernel_pi_is_1023_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_1032_Kernel [hKernel : Cert.Kernel.Facts] [hPre_pi_is_1032_Kernel : Cert.Pre_pi_is_1032_Kernel.Facts] : Prop :=
  ∀ (m : (ℓ : Loc Cert.Kernel.nD Cert.Kernel.τ Cert.Kernel.sig) → Buf (Elt Bits) ℓ) (g : Dev Cert.Kernel.nD → PrngReg), Pre_Kernel_pi_is_1032_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_1203_Kernel [hKernel : Cert.Kernel.Facts] [hPre_pi_is_1203_Kernel : Cert.Pre_pi_is_1203_Kernel.Facts] : Prop :=
  ∀ (m : (ℓ : Loc Cert.Kernel.nD Cert.Kernel.τ Cert.Kernel.sig) → Buf (Elt Bits) ℓ) (g : Dev Cert.Kernel.nD → PrngReg), Pre_Kernel_pi_is_1203_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_1230_Kernel [hKernel : Cert.Kernel.Facts] [hPre_pi_is_1230_Kernel : Cert.Pre_pi_is_1230_Kernel.Facts] : Prop :=
  ∀ (m : (ℓ : Loc Cert.Kernel.nD Cert.Kernel.τ Cert.Kernel.sig) → Buf (Elt Bits) ℓ) (g : Dev Cert.Kernel.nD → PrngReg), Pre_Kernel_pi_is_1230_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_1302_Kernel [hKernel : Cert.Kernel.Facts] [hPre_pi_is_1302_Kernel : Cert.Pre_pi_is_1302_Kernel.Facts] : Prop :=
  ∀ (m : (ℓ : Loc Cert.Kernel.nD Cert.Kernel.τ Cert.Kernel.sig) → Buf (Elt Bits) ℓ) (g : Dev Cert.Kernel.nD → PrngReg), Pre_Kernel_pi_is_1302_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_1320_Kernel [hKernel : Cert.Kernel.Facts] [hPre_pi_is_1320_Kernel : Cert.Pre_pi_is_1320_Kernel.Facts] : Prop :=
  ∀ (m : (ℓ : Loc Cert.Kernel.nD Cert.Kernel.τ Cert.Kernel.sig) → Buf (Elt Bits) ℓ) (g : Dev Cert.Kernel.nD → PrngReg), Pre_Kernel_pi_is_1320_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_2013_Kernel [hKernel : Cert.Kernel.Facts] [hPre_pi_is_2013_Kernel : Cert.Pre_pi_is_2013_Kernel.Facts] : Prop :=
  ∀ (m : (ℓ : Loc Cert.Kernel.nD Cert.Kernel.τ Cert.Kernel.sig) → Buf (Elt Bits) ℓ) (g : Dev Cert.Kernel.nD → PrngReg), Pre_Kernel_pi_is_2013_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_2031_Kernel [hKernel : Cert.Kernel.Facts] [hPre_pi_is_2031_Kernel : Cert.Pre_pi_is_2031_Kernel.Facts] : Prop :=
  ∀ (m : (ℓ : Loc Cert.Kernel.nD Cert.Kernel.τ Cert.Kernel.sig) → Buf (Elt Bits) ℓ) (g : Dev Cert.Kernel.nD → PrngReg), Pre_Kernel_pi_is_2031_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_2103_Kernel [hKernel : Cert.Kernel.Facts] [hPre_pi_is_2103_Kernel : Cert.Pre_pi_is_2103_Kernel.Facts] : Prop :=
  ∀ (m : (ℓ : Loc Cert.Kernel.nD Cert.Kernel.τ Cert.Kernel.sig) → Buf (Elt Bits) ℓ) (g : Dev Cert.Kernel.nD → PrngReg), Pre_Kernel_pi_is_2103_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_2130_Kernel [hKernel : Cert.Kernel.Facts] [hPre_pi_is_2130_Kernel : Cert.Pre_pi_is_2130_Kernel.Facts] : Prop :=
  ∀ (m : (ℓ : Loc Cert.Kernel.nD Cert.Kernel.τ Cert.Kernel.sig) → Buf (Elt Bits) ℓ) (g : Dev Cert.Kernel.nD → PrngReg), Pre_Kernel_pi_is_2130_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_2301_Kernel [hKernel : Cert.Kernel.Facts] [hPre_pi_is_2301_Kernel : Cert.Pre_pi_is_2301_Kernel.Facts] : Prop :=
  ∀ (m : (ℓ : Loc Cert.Kernel.nD Cert.Kernel.τ Cert.Kernel.sig) → Buf (Elt Bits) ℓ) (g : Dev Cert.Kernel.nD → PrngReg), Pre_Kernel_pi_is_2301_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_2310_Kernel [hKernel : Cert.Kernel.Facts] [hPre_pi_is_2310_Kernel : Cert.Pre_pi_is_2310_Kernel.Facts] : Prop :=
  ∀ (m : (ℓ : Loc Cert.Kernel.nD Cert.Kernel.τ Cert.Kernel.sig) → Buf (Elt Bits) ℓ) (g : Dev Cert.Kernel.nD → PrngReg), Pre_Kernel_pi_is_2310_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_3012_Kernel [hKernel : Cert.Kernel.Facts] [hPre_pi_is_3012_Kernel : Cert.Pre_pi_is_3012_Kernel.Facts] : Prop :=
  ∀ (m : (ℓ : Loc Cert.Kernel.nD Cert.Kernel.τ Cert.Kernel.sig) → Buf (Elt Bits) ℓ) (g : Dev Cert.Kernel.nD → PrngReg), Pre_Kernel_pi_is_3012_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_3021_Kernel [hKernel : Cert.Kernel.Facts] [hPre_pi_is_3021_Kernel : Cert.Pre_pi_is_3021_Kernel.Facts] : Prop :=
  ∀ (m : (ℓ : Loc Cert.Kernel.nD Cert.Kernel.τ Cert.Kernel.sig) → Buf (Elt Bits) ℓ) (g : Dev Cert.Kernel.nD → PrngReg), Pre_Kernel_pi_is_3021_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_3102_Kernel [hKernel : Cert.Kernel.Facts] [hPre_pi_is_3102_Kernel : Cert.Pre_pi_is_3102_Kernel.Facts] : Prop :=
  ∀ (m : (ℓ : Loc Cert.Kernel.nD Cert.Kernel.τ Cert.Kernel.sig) → Buf (Elt Bits) ℓ) (g : Dev Cert.Kernel.nD → PrngReg), Pre_Kernel_pi_is_3102_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_3120_Kernel [hKernel : Cert.Kernel.Facts] [hPre_pi_is_3120_Kernel : Cert.Pre_pi_is_3120_Kernel.Facts] : Prop :=
  ∀ (m : (ℓ : Loc Cert.Kernel.nD Cert.Kernel.τ Cert.Kernel.sig) → Buf (Elt Bits) ℓ) (g : Dev Cert.Kernel.nD → PrngReg), Pre_Kernel_pi_is_3120_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_3201_Kernel [hKernel : Cert.Kernel.Facts] [hPre_pi_is_3201_Kernel : Cert.Pre_pi_is_3201_Kernel.Facts] : Prop :=
  ∀ (m : (ℓ : Loc Cert.Kernel.nD Cert.Kernel.τ Cert.Kernel.sig) → Buf (Elt Bits) ℓ) (g : Dev Cert.Kernel.nD → PrngReg), Pre_Kernel_pi_is_3201_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_3210_Kernel [hKernel : Cert.Kernel.Facts] [hPre_pi_is_3210_Kernel : Cert.Pre_pi_is_3210_Kernel.Facts] : Prop :=
  ∀ (m : (ℓ : Loc Cert.Kernel.nD Cert.Kernel.τ Cert.Kernel.sig) → Buf (Elt Bits) ℓ) (g : Dev Cert.Kernel.nD → PrngReg), Pre_Kernel_pi_is_3210_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_pi_is_0123_Kernel : Cert.Pre_pi_is_0123_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_0132_Kernel [hKernelIdeal : Cert.KernelIdeal.Facts] [hPre_pi_is_0132_Kernel : Cert.Pre_pi_is_0132_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_0132_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_0213_Kernel [hKernelIdeal : Cert.KernelIdeal.Facts] [hPre_pi_is_0213_Kernel : Cert.Pre_pi_is_0213_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_0213_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_0231_Kernel [hKernelIdeal : Cert.KernelIdeal.Facts] [hPre_pi_is_0231_Kernel : Cert.Pre_pi_is_0231_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_0231_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_0312_Kernel [hKernelIdeal : Cert.KernelIdeal.Facts] [hPre_pi_is_0312_Kernel : Cert.Pre_pi_is_0312_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_0312_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_0321_Kernel [hKernelIdeal : Cert.KernelIdeal.Facts] [hPre_pi_is_0321_Kernel : Cert.Pre_pi_is_0321_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_0321_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_1023_Kernel [hKernelIdeal : Cert.KernelIdeal.Facts] [hPre_pi_is_1023_Kernel : Cert.Pre_pi_is_1023_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_1023_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_1032_Kernel [hKernelIdeal : Cert.KernelIdeal.Facts] [hPre_pi_is_1032_Kernel : Cert.Pre_pi_is_1032_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_1032_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_1203_Kernel [hKernelIdeal : Cert.KernelIdeal.Facts] [hPre_pi_is_1203_Kernel : Cert.Pre_pi_is_1203_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_1203_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_1230_Kernel [hKernelIdeal : Cert.KernelIdeal.Facts] [hPre_pi_is_1230_Kernel : Cert.Pre_pi_is_1230_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_1230_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_1302_Kernel [hKernelIdeal : Cert.KernelIdeal.Facts] [hPre_pi_is_1302_Kernel : Cert.Pre_pi_is_1302_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_1302_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_1320_Kernel [hKernelIdeal : Cert.KernelIdeal.Facts] [hPre_pi_is_1320_Kernel : Cert.Pre_pi_is_1320_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_1320_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_2013_Kernel [hKernelIdeal : Cert.KernelIdeal.Facts] [hPre_pi_is_2013_Kernel : Cert.Pre_pi_is_2013_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_2013_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_2031_Kernel [hKernelIdeal : Cert.KernelIdeal.Facts] [hPre_pi_is_2031_Kernel : Cert.Pre_pi_is_2031_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_2031_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_2103_Kernel [hKernelIdeal : Cert.KernelIdeal.Facts] [hPre_pi_is_2103_Kernel : Cert.Pre_pi_is_2103_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_2103_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_2130_Kernel [hKernelIdeal : Cert.KernelIdeal.Facts] [hPre_pi_is_2130_Kernel : Cert.Pre_pi_is_2130_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_2130_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_2301_Kernel [hKernelIdeal : Cert.KernelIdeal.Facts] [hPre_pi_is_2301_Kernel : Cert.Pre_pi_is_2301_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_2301_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_2310_Kernel [hKernelIdeal : Cert.KernelIdeal.Facts] [hPre_pi_is_2310_Kernel : Cert.Pre_pi_is_2310_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_2310_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_3012_Kernel [hKernelIdeal : Cert.KernelIdeal.Facts] [hPre_pi_is_3012_Kernel : Cert.Pre_pi_is_3012_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_3012_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_3021_Kernel [hKernelIdeal : Cert.KernelIdeal.Facts] [hPre_pi_is_3021_Kernel : Cert.Pre_pi_is_3021_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_3021_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_3102_Kernel [hKernelIdeal : Cert.KernelIdeal.Facts] [hPre_pi_is_3102_Kernel : Cert.Pre_pi_is_3102_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_3102_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_3120_Kernel [hKernelIdeal : Cert.KernelIdeal.Facts] [hPre_pi_is_3120_Kernel : Cert.Pre_pi_is_3120_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_3120_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_3201_Kernel [hKernelIdeal : Cert.KernelIdeal.Facts] [hPre_pi_is_3201_Kernel : Cert.Pre_pi_is_3201_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_3201_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_3210_Kernel [hKernelIdeal : Cert.KernelIdeal.Facts] [hPre_pi_is_3210_Kernel : Cert.Pre_pi_is_3210_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_3210_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_0123_ReferenceIdeal [hReferenceIdeal : Cert.ReferenceIdeal.Facts] [hPre_pi_is_0123_ReferenceIdeal : Cert.Pre_pi_is_0123_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_0123_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_0132_ReferenceIdeal [hReferenceIdeal : Cert.ReferenceIdeal.Facts] [hPre_pi_is_0132_ReferenceIdeal : Cert.Pre_pi_is_0132_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_0132_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_0213_ReferenceIdeal [hReferenceIdeal : Cert.ReferenceIdeal.Facts] [hPre_pi_is_0213_ReferenceIdeal : Cert.Pre_pi_is_0213_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_0213_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_0231_ReferenceIdeal [hReferenceIdeal : Cert.ReferenceIdeal.Facts] [hPre_pi_is_0231_ReferenceIdeal : Cert.Pre_pi_is_0231_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_0231_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_0312_ReferenceIdeal [hReferenceIdeal : Cert.ReferenceIdeal.Facts] [hPre_pi_is_0312_ReferenceIdeal : Cert.Pre_pi_is_0312_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_0312_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_0321_ReferenceIdeal [hReferenceIdeal : Cert.ReferenceIdeal.Facts] [hPre_pi_is_0321_ReferenceIdeal : Cert.Pre_pi_is_0321_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_0321_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_1023_ReferenceIdeal [hReferenceIdeal : Cert.ReferenceIdeal.Facts] [hPre_pi_is_1023_ReferenceIdeal : Cert.Pre_pi_is_1023_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_1023_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_1032_ReferenceIdeal [hReferenceIdeal : Cert.ReferenceIdeal.Facts] [hPre_pi_is_1032_ReferenceIdeal : Cert.Pre_pi_is_1032_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_1032_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_1203_ReferenceIdeal [hReferenceIdeal : Cert.ReferenceIdeal.Facts] [hPre_pi_is_1203_ReferenceIdeal : Cert.Pre_pi_is_1203_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_1203_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_1230_ReferenceIdeal [hReferenceIdeal : Cert.ReferenceIdeal.Facts] [hPre_pi_is_1230_ReferenceIdeal : Cert.Pre_pi_is_1230_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_1230_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_1302_ReferenceIdeal [hReferenceIdeal : Cert.ReferenceIdeal.Facts] [hPre_pi_is_1302_ReferenceIdeal : Cert.Pre_pi_is_1302_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_1302_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_1320_ReferenceIdeal [hReferenceIdeal : Cert.ReferenceIdeal.Facts] [hPre_pi_is_1320_ReferenceIdeal : Cert.Pre_pi_is_1320_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_1320_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_2013_ReferenceIdeal [hReferenceIdeal : Cert.ReferenceIdeal.Facts] [hPre_pi_is_2013_ReferenceIdeal : Cert.Pre_pi_is_2013_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_2013_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_2031_ReferenceIdeal [hReferenceIdeal : Cert.ReferenceIdeal.Facts] [hPre_pi_is_2031_ReferenceIdeal : Cert.Pre_pi_is_2031_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_2031_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_2103_ReferenceIdeal [hReferenceIdeal : Cert.ReferenceIdeal.Facts] [hPre_pi_is_2103_ReferenceIdeal : Cert.Pre_pi_is_2103_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_2103_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_2130_ReferenceIdeal [hReferenceIdeal : Cert.ReferenceIdeal.Facts] [hPre_pi_is_2130_ReferenceIdeal : Cert.Pre_pi_is_2130_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_2130_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_2301_ReferenceIdeal [hReferenceIdeal : Cert.ReferenceIdeal.Facts] [hPre_pi_is_2301_ReferenceIdeal : Cert.Pre_pi_is_2301_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_2301_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_2310_ReferenceIdeal [hReferenceIdeal : Cert.ReferenceIdeal.Facts] [hPre_pi_is_2310_ReferenceIdeal : Cert.Pre_pi_is_2310_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_2310_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_3012_ReferenceIdeal [hReferenceIdeal : Cert.ReferenceIdeal.Facts] [hPre_pi_is_3012_ReferenceIdeal : Cert.Pre_pi_is_3012_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_3012_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_3021_ReferenceIdeal [hReferenceIdeal : Cert.ReferenceIdeal.Facts] [hPre_pi_is_3021_ReferenceIdeal : Cert.Pre_pi_is_3021_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_3021_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_3102_ReferenceIdeal [hReferenceIdeal : Cert.ReferenceIdeal.Facts] [hPre_pi_is_3102_ReferenceIdeal : Cert.Pre_pi_is_3102_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_3102_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_3120_ReferenceIdeal [hReferenceIdeal : Cert.ReferenceIdeal.Facts] [hPre_pi_is_3120_ReferenceIdeal : Cert.Pre_pi_is_3120_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_3120_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_3201_ReferenceIdeal [hReferenceIdeal : Cert.ReferenceIdeal.Facts] [hPre_pi_is_3201_ReferenceIdeal : Cert.Pre_pi_is_3201_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_3201_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_3210_ReferenceIdeal [hReferenceIdeal : Cert.ReferenceIdeal.Facts] [hPre_pi_is_3210_ReferenceIdeal : Cert.Pre_pi_is_3210_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_3210_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "inv127" .f32 0x3C010204#32 ((1 / 127 : ℝ) : EReal)

def algebraic_KernelIdeal_ReferenceIdeal [hKernelIdeal : Cert.KernelIdeal.Facts] [hReferenceIdeal : Cert.ReferenceIdeal.Facts] [hPre_pi_is_0123_Kernel : Cert.Pre_pi_is_0123_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![4, 1024, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 1024, 1024]⟩ ⟨3, ![4, 1024, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v27) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_0132_Kernel [hKernelIdeal : Cert.KernelIdeal.Facts] [hReferenceIdeal : Cert.ReferenceIdeal.Facts] [hPre_pi_is_0132_Kernel : Cert.Pre_pi_is_0132_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_0132_Kernel m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![4, 1024, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 1024, 1024]⟩ ⟨3, ![4, 1024, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v27) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_0213_Kernel [hKernelIdeal : Cert.KernelIdeal.Facts] [hReferenceIdeal : Cert.ReferenceIdeal.Facts] [hPre_pi_is_0213_Kernel : Cert.Pre_pi_is_0213_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_0213_Kernel m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![4, 1024, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 1024, 1024]⟩ ⟨3, ![4, 1024, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v27) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_0231_Kernel [hKernelIdeal : Cert.KernelIdeal.Facts] [hReferenceIdeal : Cert.ReferenceIdeal.Facts] [hPre_pi_is_0231_Kernel : Cert.Pre_pi_is_0231_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_0231_Kernel m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![4, 1024, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 1024, 1024]⟩ ⟨3, ![4, 1024, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v27) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_0312_Kernel [hKernelIdeal : Cert.KernelIdeal.Facts] [hReferenceIdeal : Cert.ReferenceIdeal.Facts] [hPre_pi_is_0312_Kernel : Cert.Pre_pi_is_0312_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_0312_Kernel m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![4, 1024, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 1024, 1024]⟩ ⟨3, ![4, 1024, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v27) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_0321_Kernel [hKernelIdeal : Cert.KernelIdeal.Facts] [hReferenceIdeal : Cert.ReferenceIdeal.Facts] [hPre_pi_is_0321_Kernel : Cert.Pre_pi_is_0321_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_0321_Kernel m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![4, 1024, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 1024, 1024]⟩ ⟨3, ![4, 1024, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v27) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_1023_Kernel [hKernelIdeal : Cert.KernelIdeal.Facts] [hReferenceIdeal : Cert.ReferenceIdeal.Facts] [hPre_pi_is_1023_Kernel : Cert.Pre_pi_is_1023_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_1023_Kernel m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![4, 1024, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 1024, 1024]⟩ ⟨3, ![4, 1024, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v27) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_1032_Kernel [hKernelIdeal : Cert.KernelIdeal.Facts] [hReferenceIdeal : Cert.ReferenceIdeal.Facts] [hPre_pi_is_1032_Kernel : Cert.Pre_pi_is_1032_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_1032_Kernel m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![4, 1024, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 1024, 1024]⟩ ⟨3, ![4, 1024, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v27) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_1203_Kernel [hKernelIdeal : Cert.KernelIdeal.Facts] [hReferenceIdeal : Cert.ReferenceIdeal.Facts] [hPre_pi_is_1203_Kernel : Cert.Pre_pi_is_1203_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_1203_Kernel m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![4, 1024, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 1024, 1024]⟩ ⟨3, ![4, 1024, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v27) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_1230_Kernel [hKernelIdeal : Cert.KernelIdeal.Facts] [hReferenceIdeal : Cert.ReferenceIdeal.Facts] [hPre_pi_is_1230_Kernel : Cert.Pre_pi_is_1230_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_1230_Kernel m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![4, 1024, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 1024, 1024]⟩ ⟨3, ![4, 1024, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v27) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_1302_Kernel [hKernelIdeal : Cert.KernelIdeal.Facts] [hReferenceIdeal : Cert.ReferenceIdeal.Facts] [hPre_pi_is_1302_Kernel : Cert.Pre_pi_is_1302_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_1302_Kernel m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![4, 1024, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 1024, 1024]⟩ ⟨3, ![4, 1024, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v27) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_1320_Kernel [hKernelIdeal : Cert.KernelIdeal.Facts] [hReferenceIdeal : Cert.ReferenceIdeal.Facts] [hPre_pi_is_1320_Kernel : Cert.Pre_pi_is_1320_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_1320_Kernel m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![4, 1024, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 1024, 1024]⟩ ⟨3, ![4, 1024, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v27) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_2013_Kernel [hKernelIdeal : Cert.KernelIdeal.Facts] [hReferenceIdeal : Cert.ReferenceIdeal.Facts] [hPre_pi_is_2013_Kernel : Cert.Pre_pi_is_2013_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_2013_Kernel m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![4, 1024, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 1024, 1024]⟩ ⟨3, ![4, 1024, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v27) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_2031_Kernel [hKernelIdeal : Cert.KernelIdeal.Facts] [hReferenceIdeal : Cert.ReferenceIdeal.Facts] [hPre_pi_is_2031_Kernel : Cert.Pre_pi_is_2031_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_2031_Kernel m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![4, 1024, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 1024, 1024]⟩ ⟨3, ![4, 1024, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v27) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_2103_Kernel [hKernelIdeal : Cert.KernelIdeal.Facts] [hReferenceIdeal : Cert.ReferenceIdeal.Facts] [hPre_pi_is_2103_Kernel : Cert.Pre_pi_is_2103_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_2103_Kernel m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![4, 1024, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 1024, 1024]⟩ ⟨3, ![4, 1024, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v27) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_2130_Kernel [hKernelIdeal : Cert.KernelIdeal.Facts] [hReferenceIdeal : Cert.ReferenceIdeal.Facts] [hPre_pi_is_2130_Kernel : Cert.Pre_pi_is_2130_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_2130_Kernel m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![4, 1024, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 1024, 1024]⟩ ⟨3, ![4, 1024, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v27) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_2301_Kernel [hKernelIdeal : Cert.KernelIdeal.Facts] [hReferenceIdeal : Cert.ReferenceIdeal.Facts] [hPre_pi_is_2301_Kernel : Cert.Pre_pi_is_2301_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_2301_Kernel m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![4, 1024, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 1024, 1024]⟩ ⟨3, ![4, 1024, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v27) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_2310_Kernel [hKernelIdeal : Cert.KernelIdeal.Facts] [hReferenceIdeal : Cert.ReferenceIdeal.Facts] [hPre_pi_is_2310_Kernel : Cert.Pre_pi_is_2310_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_2310_Kernel m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![4, 1024, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 1024, 1024]⟩ ⟨3, ![4, 1024, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v27) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_3012_Kernel [hKernelIdeal : Cert.KernelIdeal.Facts] [hReferenceIdeal : Cert.ReferenceIdeal.Facts] [hPre_pi_is_3012_Kernel : Cert.Pre_pi_is_3012_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_3012_Kernel m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![4, 1024, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 1024, 1024]⟩ ⟨3, ![4, 1024, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v27) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_3021_Kernel [hKernelIdeal : Cert.KernelIdeal.Facts] [hReferenceIdeal : Cert.ReferenceIdeal.Facts] [hPre_pi_is_3021_Kernel : Cert.Pre_pi_is_3021_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_3021_Kernel m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![4, 1024, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 1024, 1024]⟩ ⟨3, ![4, 1024, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v27) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_3102_Kernel [hKernelIdeal : Cert.KernelIdeal.Facts] [hReferenceIdeal : Cert.ReferenceIdeal.Facts] [hPre_pi_is_3102_Kernel : Cert.Pre_pi_is_3102_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_3102_Kernel m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![4, 1024, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 1024, 1024]⟩ ⟨3, ![4, 1024, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v27) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_3120_Kernel [hKernelIdeal : Cert.KernelIdeal.Facts] [hReferenceIdeal : Cert.ReferenceIdeal.Facts] [hPre_pi_is_3120_Kernel : Cert.Pre_pi_is_3120_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_3120_Kernel m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![4, 1024, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 1024, 1024]⟩ ⟨3, ![4, 1024, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v27) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_3201_Kernel [hKernelIdeal : Cert.KernelIdeal.Facts] [hReferenceIdeal : Cert.ReferenceIdeal.Facts] [hPre_pi_is_3201_Kernel : Cert.Pre_pi_is_3201_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_3201_Kernel m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![4, 1024, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 1024, 1024]⟩ ⟨3, ![4, 1024, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v27) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_3210_Kernel [hKernelIdeal : Cert.KernelIdeal.Facts] [hReferenceIdeal : Cert.ReferenceIdeal.Facts] [hPre_pi_is_3210_Kernel : Cert.Pre_pi_is_3210_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_3210_Kernel m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![4, 1024, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 1024, 1024]⟩ ⟨3, ![4, 1024, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v27) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_pi_is_0123_Kernel : Cert.Pre_pi_is_0123_Kernel.Facts) (hPre_pi_is_0132_Kernel : Cert.Pre_pi_is_0132_Kernel.Facts) (hPre_pi_is_0213_Kernel : Cert.Pre_pi_is_0213_Kernel.Facts) (hPre_pi_is_0231_Kernel : Cert.Pre_pi_is_0231_Kernel.Facts) (hPre_pi_is_0312_Kernel : Cert.Pre_pi_is_0312_Kernel.Facts) (hPre_pi_is_0321_Kernel : Cert.Pre_pi_is_0321_Kernel.Facts) (hPre_pi_is_1023_Kernel : Cert.Pre_pi_is_1023_Kernel.Facts) (hPre_pi_is_1032_Kernel : Cert.Pre_pi_is_1032_Kernel.Facts) (hPre_pi_is_1203_Kernel : Cert.Pre_pi_is_1203_Kernel.Facts) (hPre_pi_is_1230_Kernel : Cert.Pre_pi_is_1230_Kernel.Facts) (hPre_pi_is_1302_Kernel : Cert.Pre_pi_is_1302_Kernel.Facts) (hPre_pi_is_1320_Kernel : Cert.Pre_pi_is_1320_Kernel.Facts) (hPre_pi_is_2013_Kernel : Cert.Pre_pi_is_2013_Kernel.Facts) (hPre_pi_is_2031_Kernel : Cert.Pre_pi_is_2031_Kernel.Facts) (hPre_pi_is_2103_Kernel : Cert.Pre_pi_is_2103_Kernel.Facts) (hPre_pi_is_2130_Kernel : Cert.Pre_pi_is_2130_Kernel.Facts) (hPre_pi_is_2301_Kernel : Cert.Pre_pi_is_2301_Kernel.Facts) (hPre_pi_is_2310_Kernel : Cert.Pre_pi_is_2310_Kernel.Facts) (hPre_pi_is_3012_Kernel : Cert.Pre_pi_is_3012_Kernel.Facts) (hPre_pi_is_3021_Kernel : Cert.Pre_pi_is_3021_Kernel.Facts) (hPre_pi_is_3102_Kernel : Cert.Pre_pi_is_3102_Kernel.Facts) (hPre_pi_is_3120_Kernel : Cert.Pre_pi_is_3120_Kernel.Facts) (hPre_pi_is_3201_Kernel : Cert.Pre_pi_is_3201_Kernel.Facts) (hPre_pi_is_3210_Kernel : Cert.Pre_pi_is_3210_Kernel.Facts) (hPre_pi_is_0123_ReferenceIdeal : Cert.Pre_pi_is_0123_ReferenceIdeal.Facts) (hPre_pi_is_0132_ReferenceIdeal : Cert.Pre_pi_is_0132_ReferenceIdeal.Facts) (hPre_pi_is_0213_ReferenceIdeal : Cert.Pre_pi_is_0213_ReferenceIdeal.Facts) (hPre_pi_is_0231_ReferenceIdeal : Cert.Pre_pi_is_0231_ReferenceIdeal.Facts) (hPre_pi_is_0312_ReferenceIdeal : Cert.Pre_pi_is_0312_ReferenceIdeal.Facts) (hPre_pi_is_0321_ReferenceIdeal : Cert.Pre_pi_is_0321_ReferenceIdeal.Facts) (hPre_pi_is_1023_ReferenceIdeal : Cert.Pre_pi_is_1023_ReferenceIdeal.Facts) (hPre_pi_is_1032_ReferenceIdeal : Cert.Pre_pi_is_1032_ReferenceIdeal.Facts) (hPre_pi_is_1203_ReferenceIdeal : Cert.Pre_pi_is_1203_ReferenceIdeal.Facts) (hPre_pi_is_1230_ReferenceIdeal : Cert.Pre_pi_is_1230_ReferenceIdeal.Facts) (hPre_pi_is_1302_ReferenceIdeal : Cert.Pre_pi_is_1302_ReferenceIdeal.Facts) (hPre_pi_is_1320_ReferenceIdeal : Cert.Pre_pi_is_1320_ReferenceIdeal.Facts) (hPre_pi_is_2013_ReferenceIdeal : Cert.Pre_pi_is_2013_ReferenceIdeal.Facts) (hPre_pi_is_2031_ReferenceIdeal : Cert.Pre_pi_is_2031_ReferenceIdeal.Facts) (hPre_pi_is_2103_ReferenceIdeal : Cert.Pre_pi_is_2103_ReferenceIdeal.Facts) (hPre_pi_is_2130_ReferenceIdeal : Cert.Pre_pi_is_2130_ReferenceIdeal.Facts) (hPre_pi_is_2301_ReferenceIdeal : Cert.Pre_pi_is_2301_ReferenceIdeal.Facts) (hPre_pi_is_2310_ReferenceIdeal : Cert.Pre_pi_is_2310_ReferenceIdeal.Facts) (hPre_pi_is_3012_ReferenceIdeal : Cert.Pre_pi_is_3012_ReferenceIdeal.Facts) (hPre_pi_is_3021_ReferenceIdeal : Cert.Pre_pi_is_3021_ReferenceIdeal.Facts) (hPre_pi_is_3102_ReferenceIdeal : Cert.Pre_pi_is_3102_ReferenceIdeal.Facts) (hPre_pi_is_3120_ReferenceIdeal : Cert.Pre_pi_is_3120_ReferenceIdeal.Facts) (hPre_pi_is_3201_ReferenceIdeal : Cert.Pre_pi_is_3201_ReferenceIdeal.Facts) (hPre_pi_is_3210_ReferenceIdeal : Cert.Pre_pi_is_3210_ReferenceIdeal.Facts),
    quiescent_Kernel (hKernel := hKernel) (hPre_pi_is_0123_Kernel := hPre_pi_is_0123_Kernel)
    ∧ quiescent_Kernel_pre_pi_is_0132_Kernel (hKernel := hKernel) (hPre_pi_is_0132_Kernel := hPre_pi_is_0132_Kernel)
    ∧ quiescent_Kernel_pre_pi_is_0213_Kernel (hKernel := hKernel) (hPre_pi_is_0213_Kernel := hPre_pi_is_0213_Kernel)
    ∧ quiescent_Kernel_pre_pi_is_0231_Kernel (hKernel := hKernel) (hPre_pi_is_0231_Kernel := hPre_pi_is_0231_Kernel)
    ∧ quiescent_Kernel_pre_pi_is_0312_Kernel (hKernel := hKernel) (hPre_pi_is_0312_Kernel := hPre_pi_is_0312_Kernel)
    ∧ quiescent_Kernel_pre_pi_is_0321_Kernel (hKernel := hKernel) (hPre_pi_is_0321_Kernel := hPre_pi_is_0321_Kernel)
    ∧ quiescent_Kernel_pre_pi_is_1023_Kernel (hKernel := hKernel) (hPre_pi_is_1023_Kernel := hPre_pi_is_1023_Kernel)
    ∧ quiescent_Kernel_pre_pi_is_1032_Kernel (hKernel := hKernel) (hPre_pi_is_1032_Kernel := hPre_pi_is_1032_Kernel)
    ∧ quiescent_Kernel_pre_pi_is_1203_Kernel (hKernel := hKernel) (hPre_pi_is_1203_Kernel := hPre_pi_is_1203_Kernel)
    ∧ quiescent_Kernel_pre_pi_is_1230_Kernel (hKernel := hKernel) (hPre_pi_is_1230_Kernel := hPre_pi_is_1230_Kernel)
    ∧ quiescent_Kernel_pre_pi_is_1302_Kernel (hKernel := hKernel) (hPre_pi_is_1302_Kernel := hPre_pi_is_1302_Kernel)
    ∧ quiescent_Kernel_pre_pi_is_1320_Kernel (hKernel := hKernel) (hPre_pi_is_1320_Kernel := hPre_pi_is_1320_Kernel)
    ∧ quiescent_Kernel_pre_pi_is_2013_Kernel (hKernel := hKernel) (hPre_pi_is_2013_Kernel := hPre_pi_is_2013_Kernel)
    ∧ quiescent_Kernel_pre_pi_is_2031_Kernel (hKernel := hKernel) (hPre_pi_is_2031_Kernel := hPre_pi_is_2031_Kernel)
    ∧ quiescent_Kernel_pre_pi_is_2103_Kernel (hKernel := hKernel) (hPre_pi_is_2103_Kernel := hPre_pi_is_2103_Kernel)
    ∧ quiescent_Kernel_pre_pi_is_2130_Kernel (hKernel := hKernel) (hPre_pi_is_2130_Kernel := hPre_pi_is_2130_Kernel)
    ∧ quiescent_Kernel_pre_pi_is_2301_Kernel (hKernel := hKernel) (hPre_pi_is_2301_Kernel := hPre_pi_is_2301_Kernel)
    ∧ quiescent_Kernel_pre_pi_is_2310_Kernel (hKernel := hKernel) (hPre_pi_is_2310_Kernel := hPre_pi_is_2310_Kernel)
    ∧ quiescent_Kernel_pre_pi_is_3012_Kernel (hKernel := hKernel) (hPre_pi_is_3012_Kernel := hPre_pi_is_3012_Kernel)
    ∧ quiescent_Kernel_pre_pi_is_3021_Kernel (hKernel := hKernel) (hPre_pi_is_3021_Kernel := hPre_pi_is_3021_Kernel)
    ∧ quiescent_Kernel_pre_pi_is_3102_Kernel (hKernel := hKernel) (hPre_pi_is_3102_Kernel := hPre_pi_is_3102_Kernel)
    ∧ quiescent_Kernel_pre_pi_is_3120_Kernel (hKernel := hKernel) (hPre_pi_is_3120_Kernel := hPre_pi_is_3120_Kernel)
    ∧ quiescent_Kernel_pre_pi_is_3201_Kernel (hKernel := hKernel) (hPre_pi_is_3201_Kernel := hPre_pi_is_3201_Kernel)
    ∧ quiescent_Kernel_pre_pi_is_3210_Kernel (hKernel := hKernel) (hPre_pi_is_3210_Kernel := hPre_pi_is_3210_Kernel)
    ∧ quiescent_KernelIdeal (hKernelIdeal := hKernelIdeal) (hPre_pi_is_0123_Kernel := hPre_pi_is_0123_Kernel)
    ∧ quiescent_KernelIdeal_pre_pi_is_0132_Kernel (hKernelIdeal := hKernelIdeal) (hPre_pi_is_0132_Kernel := hPre_pi_is_0132_Kernel)
    ∧ quiescent_KernelIdeal_pre_pi_is_0213_Kernel (hKernelIdeal := hKernelIdeal) (hPre_pi_is_0213_Kernel := hPre_pi_is_0213_Kernel)
    ∧ quiescent_KernelIdeal_pre_pi_is_0231_Kernel (hKernelIdeal := hKernelIdeal) (hPre_pi_is_0231_Kernel := hPre_pi_is_0231_Kernel)
    ∧ quiescent_KernelIdeal_pre_pi_is_0312_Kernel (hKernelIdeal := hKernelIdeal) (hPre_pi_is_0312_Kernel := hPre_pi_is_0312_Kernel)
    ∧ quiescent_KernelIdeal_pre_pi_is_0321_Kernel (hKernelIdeal := hKernelIdeal) (hPre_pi_is_0321_Kernel := hPre_pi_is_0321_Kernel)
    ∧ quiescent_KernelIdeal_pre_pi_is_1023_Kernel (hKernelIdeal := hKernelIdeal) (hPre_pi_is_1023_Kernel := hPre_pi_is_1023_Kernel)
    ∧ quiescent_KernelIdeal_pre_pi_is_1032_Kernel (hKernelIdeal := hKernelIdeal) (hPre_pi_is_1032_Kernel := hPre_pi_is_1032_Kernel)
    ∧ quiescent_KernelIdeal_pre_pi_is_1203_Kernel (hKernelIdeal := hKernelIdeal) (hPre_pi_is_1203_Kernel := hPre_pi_is_1203_Kernel)
    ∧ quiescent_KernelIdeal_pre_pi_is_1230_Kernel (hKernelIdeal := hKernelIdeal) (hPre_pi_is_1230_Kernel := hPre_pi_is_1230_Kernel)
    ∧ quiescent_KernelIdeal_pre_pi_is_1302_Kernel (hKernelIdeal := hKernelIdeal) (hPre_pi_is_1302_Kernel := hPre_pi_is_1302_Kernel)
    ∧ quiescent_KernelIdeal_pre_pi_is_1320_Kernel (hKernelIdeal := hKernelIdeal) (hPre_pi_is_1320_Kernel := hPre_pi_is_1320_Kernel)
    ∧ quiescent_KernelIdeal_pre_pi_is_2013_Kernel (hKernelIdeal := hKernelIdeal) (hPre_pi_is_2013_Kernel := hPre_pi_is_2013_Kernel)
    ∧ quiescent_KernelIdeal_pre_pi_is_2031_Kernel (hKernelIdeal := hKernelIdeal) (hPre_pi_is_2031_Kernel := hPre_pi_is_2031_Kernel)
    ∧ quiescent_KernelIdeal_pre_pi_is_2103_Kernel (hKernelIdeal := hKernelIdeal) (hPre_pi_is_2103_Kernel := hPre_pi_is_2103_Kernel)
    ∧ quiescent_KernelIdeal_pre_pi_is_2130_Kernel (hKernelIdeal := hKernelIdeal) (hPre_pi_is_2130_Kernel := hPre_pi_is_2130_Kernel)
    ∧ quiescent_KernelIdeal_pre_pi_is_2301_Kernel (hKernelIdeal := hKernelIdeal) (hPre_pi_is_2301_Kernel := hPre_pi_is_2301_Kernel)
    ∧ quiescent_KernelIdeal_pre_pi_is_2310_Kernel (hKernelIdeal := hKernelIdeal) (hPre_pi_is_2310_Kernel := hPre_pi_is_2310_Kernel)
    ∧ quiescent_KernelIdeal_pre_pi_is_3012_Kernel (hKernelIdeal := hKernelIdeal) (hPre_pi_is_3012_Kernel := hPre_pi_is_3012_Kernel)
    ∧ quiescent_KernelIdeal_pre_pi_is_3021_Kernel (hKernelIdeal := hKernelIdeal) (hPre_pi_is_3021_Kernel := hPre_pi_is_3021_Kernel)
    ∧ quiescent_KernelIdeal_pre_pi_is_3102_Kernel (hKernelIdeal := hKernelIdeal) (hPre_pi_is_3102_Kernel := hPre_pi_is_3102_Kernel)
    ∧ quiescent_KernelIdeal_pre_pi_is_3120_Kernel (hKernelIdeal := hKernelIdeal) (hPre_pi_is_3120_Kernel := hPre_pi_is_3120_Kernel)
    ∧ quiescent_KernelIdeal_pre_pi_is_3201_Kernel (hKernelIdeal := hKernelIdeal) (hPre_pi_is_3201_Kernel := hPre_pi_is_3201_Kernel)
    ∧ quiescent_KernelIdeal_pre_pi_is_3210_Kernel (hKernelIdeal := hKernelIdeal) (hPre_pi_is_3210_Kernel := hPre_pi_is_3210_Kernel)
    ∧ quiescent_ReferenceIdeal (hReferenceIdeal := hReferenceIdeal)
    ∧ quiescent_ReferenceIdeal_pre_pi_is_0123_ReferenceIdeal (hReferenceIdeal := hReferenceIdeal) (hPre_pi_is_0123_ReferenceIdeal := hPre_pi_is_0123_ReferenceIdeal)
    ∧ quiescent_ReferenceIdeal_pre_pi_is_0132_ReferenceIdeal (hReferenceIdeal := hReferenceIdeal) (hPre_pi_is_0132_ReferenceIdeal := hPre_pi_is_0132_ReferenceIdeal)
    ∧ quiescent_ReferenceIdeal_pre_pi_is_0213_ReferenceIdeal (hReferenceIdeal := hReferenceIdeal) (hPre_pi_is_0213_ReferenceIdeal := hPre_pi_is_0213_ReferenceIdeal)
    ∧ quiescent_ReferenceIdeal_pre_pi_is_0231_ReferenceIdeal (hReferenceIdeal := hReferenceIdeal) (hPre_pi_is_0231_ReferenceIdeal := hPre_pi_is_0231_ReferenceIdeal)
    ∧ quiescent_ReferenceIdeal_pre_pi_is_0312_ReferenceIdeal (hReferenceIdeal := hReferenceIdeal) (hPre_pi_is_0312_ReferenceIdeal := hPre_pi_is_0312_ReferenceIdeal)
    ∧ quiescent_ReferenceIdeal_pre_pi_is_0321_ReferenceIdeal (hReferenceIdeal := hReferenceIdeal) (hPre_pi_is_0321_ReferenceIdeal := hPre_pi_is_0321_ReferenceIdeal)
    ∧ quiescent_ReferenceIdeal_pre_pi_is_1023_ReferenceIdeal (hReferenceIdeal := hReferenceIdeal) (hPre_pi_is_1023_ReferenceIdeal := hPre_pi_is_1023_ReferenceIdeal)
    ∧ quiescent_ReferenceIdeal_pre_pi_is_1032_ReferenceIdeal (hReferenceIdeal := hReferenceIdeal) (hPre_pi_is_1032_ReferenceIdeal := hPre_pi_is_1032_ReferenceIdeal)
    ∧ quiescent_ReferenceIdeal_pre_pi_is_1203_ReferenceIdeal (hReferenceIdeal := hReferenceIdeal) (hPre_pi_is_1203_ReferenceIdeal := hPre_pi_is_1203_ReferenceIdeal)
    ∧ quiescent_ReferenceIdeal_pre_pi_is_1230_ReferenceIdeal (hReferenceIdeal := hReferenceIdeal) (hPre_pi_is_1230_ReferenceIdeal := hPre_pi_is_1230_ReferenceIdeal)
    ∧ quiescent_ReferenceIdeal_pre_pi_is_1302_ReferenceIdeal (hReferenceIdeal := hReferenceIdeal) (hPre_pi_is_1302_ReferenceIdeal := hPre_pi_is_1302_ReferenceIdeal)
    ∧ quiescent_ReferenceIdeal_pre_pi_is_1320_ReferenceIdeal (hReferenceIdeal := hReferenceIdeal) (hPre_pi_is_1320_ReferenceIdeal := hPre_pi_is_1320_ReferenceIdeal)
    ∧ quiescent_ReferenceIdeal_pre_pi_is_2013_ReferenceIdeal (hReferenceIdeal := hReferenceIdeal) (hPre_pi_is_2013_ReferenceIdeal := hPre_pi_is_2013_ReferenceIdeal)
    ∧ quiescent_ReferenceIdeal_pre_pi_is_2031_ReferenceIdeal (hReferenceIdeal := hReferenceIdeal) (hPre_pi_is_2031_ReferenceIdeal := hPre_pi_is_2031_ReferenceIdeal)
    ∧ quiescent_ReferenceIdeal_pre_pi_is_2103_ReferenceIdeal (hReferenceIdeal := hReferenceIdeal) (hPre_pi_is_2103_ReferenceIdeal := hPre_pi_is_2103_ReferenceIdeal)
    ∧ quiescent_ReferenceIdeal_pre_pi_is_2130_ReferenceIdeal (hReferenceIdeal := hReferenceIdeal) (hPre_pi_is_2130_ReferenceIdeal := hPre_pi_is_2130_ReferenceIdeal)
    ∧ quiescent_ReferenceIdeal_pre_pi_is_2301_ReferenceIdeal (hReferenceIdeal := hReferenceIdeal) (hPre_pi_is_2301_ReferenceIdeal := hPre_pi_is_2301_ReferenceIdeal)
    ∧ quiescent_ReferenceIdeal_pre_pi_is_2310_ReferenceIdeal (hReferenceIdeal := hReferenceIdeal) (hPre_pi_is_2310_ReferenceIdeal := hPre_pi_is_2310_ReferenceIdeal)
    ∧ quiescent_ReferenceIdeal_pre_pi_is_3012_ReferenceIdeal (hReferenceIdeal := hReferenceIdeal) (hPre_pi_is_3012_ReferenceIdeal := hPre_pi_is_3012_ReferenceIdeal)
    ∧ quiescent_ReferenceIdeal_pre_pi_is_3021_ReferenceIdeal (hReferenceIdeal := hReferenceIdeal) (hPre_pi_is_3021_ReferenceIdeal := hPre_pi_is_3021_ReferenceIdeal)
    ∧ quiescent_ReferenceIdeal_pre_pi_is_3102_ReferenceIdeal (hReferenceIdeal := hReferenceIdeal) (hPre_pi_is_3102_ReferenceIdeal := hPre_pi_is_3102_ReferenceIdeal)
    ∧ quiescent_ReferenceIdeal_pre_pi_is_3120_ReferenceIdeal (hReferenceIdeal := hReferenceIdeal) (hPre_pi_is_3120_ReferenceIdeal := hPre_pi_is_3120_ReferenceIdeal)
    ∧ quiescent_ReferenceIdeal_pre_pi_is_3201_ReferenceIdeal (hReferenceIdeal := hReferenceIdeal) (hPre_pi_is_3201_ReferenceIdeal := hPre_pi_is_3201_ReferenceIdeal)
    ∧ quiescent_ReferenceIdeal_pre_pi_is_3210_ReferenceIdeal (hReferenceIdeal := hReferenceIdeal) (hPre_pi_is_3210_ReferenceIdeal := hPre_pi_is_3210_ReferenceIdeal)
    ∧ preserves_Kernel_KernelIdeal
    ∧ algebraic_KernelIdeal_ReferenceIdeal (hKernelIdeal := hKernelIdeal) (hReferenceIdeal := hReferenceIdeal) (hPre_pi_is_0123_Kernel := hPre_pi_is_0123_Kernel)
    ∧ algebraic_KernelIdeal_ReferenceIdeal_pre_pi_is_0132_Kernel (hKernelIdeal := hKernelIdeal) (hReferenceIdeal := hReferenceIdeal) (hPre_pi_is_0132_Kernel := hPre_pi_is_0132_Kernel)
    ∧ algebraic_KernelIdeal_ReferenceIdeal_pre_pi_is_0213_Kernel (hKernelIdeal := hKernelIdeal) (hReferenceIdeal := hReferenceIdeal) (hPre_pi_is_0213_Kernel := hPre_pi_is_0213_Kernel)
    ∧ algebraic_KernelIdeal_ReferenceIdeal_pre_pi_is_0231_Kernel (hKernelIdeal := hKernelIdeal) (hReferenceIdeal := hReferenceIdeal) (hPre_pi_is_0231_Kernel := hPre_pi_is_0231_Kernel)
    ∧ algebraic_KernelIdeal_ReferenceIdeal_pre_pi_is_0312_Kernel (hKernelIdeal := hKernelIdeal) (hReferenceIdeal := hReferenceIdeal) (hPre_pi_is_0312_Kernel := hPre_pi_is_0312_Kernel)
    ∧ algebraic_KernelIdeal_ReferenceIdeal_pre_pi_is_0321_Kernel (hKernelIdeal := hKernelIdeal) (hReferenceIdeal := hReferenceIdeal) (hPre_pi_is_0321_Kernel := hPre_pi_is_0321_Kernel)
    ∧ algebraic_KernelIdeal_ReferenceIdeal_pre_pi_is_1023_Kernel (hKernelIdeal := hKernelIdeal) (hReferenceIdeal := hReferenceIdeal) (hPre_pi_is_1023_Kernel := hPre_pi_is_1023_Kernel)
    ∧ algebraic_KernelIdeal_ReferenceIdeal_pre_pi_is_1032_Kernel (hKernelIdeal := hKernelIdeal) (hReferenceIdeal := hReferenceIdeal) (hPre_pi_is_1032_Kernel := hPre_pi_is_1032_Kernel)
    ∧ algebraic_KernelIdeal_ReferenceIdeal_pre_pi_is_1203_Kernel (hKernelIdeal := hKernelIdeal) (hReferenceIdeal := hReferenceIdeal) (hPre_pi_is_1203_Kernel := hPre_pi_is_1203_Kernel)
    ∧ algebraic_KernelIdeal_ReferenceIdeal_pre_pi_is_1230_Kernel (hKernelIdeal := hKernelIdeal) (hReferenceIdeal := hReferenceIdeal) (hPre_pi_is_1230_Kernel := hPre_pi_is_1230_Kernel)
    ∧ algebraic_KernelIdeal_ReferenceIdeal_pre_pi_is_1302_Kernel (hKernelIdeal := hKernelIdeal) (hReferenceIdeal := hReferenceIdeal) (hPre_pi_is_1302_Kernel := hPre_pi_is_1302_Kernel)
    ∧ algebraic_KernelIdeal_ReferenceIdeal_pre_pi_is_1320_Kernel (hKernelIdeal := hKernelIdeal) (hReferenceIdeal := hReferenceIdeal) (hPre_pi_is_1320_Kernel := hPre_pi_is_1320_Kernel)
    ∧ algebraic_KernelIdeal_ReferenceIdeal_pre_pi_is_2013_Kernel (hKernelIdeal := hKernelIdeal) (hReferenceIdeal := hReferenceIdeal) (hPre_pi_is_2013_Kernel := hPre_pi_is_2013_Kernel)
    ∧ algebraic_KernelIdeal_ReferenceIdeal_pre_pi_is_2031_Kernel (hKernelIdeal := hKernelIdeal) (hReferenceIdeal := hReferenceIdeal) (hPre_pi_is_2031_Kernel := hPre_pi_is_2031_Kernel)
    ∧ algebraic_KernelIdeal_ReferenceIdeal_pre_pi_is_2103_Kernel (hKernelIdeal := hKernelIdeal) (hReferenceIdeal := hReferenceIdeal) (hPre_pi_is_2103_Kernel := hPre_pi_is_2103_Kernel)
    ∧ algebraic_KernelIdeal_ReferenceIdeal_pre_pi_is_2130_Kernel (hKernelIdeal := hKernelIdeal) (hReferenceIdeal := hReferenceIdeal) (hPre_pi_is_2130_Kernel := hPre_pi_is_2130_Kernel)
    ∧ algebraic_KernelIdeal_ReferenceIdeal_pre_pi_is_2301_Kernel (hKernelIdeal := hKernelIdeal) (hReferenceIdeal := hReferenceIdeal) (hPre_pi_is_2301_Kernel := hPre_pi_is_2301_Kernel)
    ∧ algebraic_KernelIdeal_ReferenceIdeal_pre_pi_is_2310_Kernel (hKernelIdeal := hKernelIdeal) (hReferenceIdeal := hReferenceIdeal) (hPre_pi_is_2310_Kernel := hPre_pi_is_2310_Kernel)
    ∧ algebraic_KernelIdeal_ReferenceIdeal_pre_pi_is_3012_Kernel (hKernelIdeal := hKernelIdeal) (hReferenceIdeal := hReferenceIdeal) (hPre_pi_is_3012_Kernel := hPre_pi_is_3012_Kernel)
    ∧ algebraic_KernelIdeal_ReferenceIdeal_pre_pi_is_3021_Kernel (hKernelIdeal := hKernelIdeal) (hReferenceIdeal := hReferenceIdeal) (hPre_pi_is_3021_Kernel := hPre_pi_is_3021_Kernel)
    ∧ algebraic_KernelIdeal_ReferenceIdeal_pre_pi_is_3102_Kernel (hKernelIdeal := hKernelIdeal) (hReferenceIdeal := hReferenceIdeal) (hPre_pi_is_3102_Kernel := hPre_pi_is_3102_Kernel)
    ∧ algebraic_KernelIdeal_ReferenceIdeal_pre_pi_is_3120_Kernel (hKernelIdeal := hKernelIdeal) (hReferenceIdeal := hReferenceIdeal) (hPre_pi_is_3120_Kernel := hPre_pi_is_3120_Kernel)
    ∧ algebraic_KernelIdeal_ReferenceIdeal_pre_pi_is_3201_Kernel (hKernelIdeal := hKernelIdeal) (hReferenceIdeal := hReferenceIdeal) (hPre_pi_is_3201_Kernel := hPre_pi_is_3201_Kernel)
    ∧ algebraic_KernelIdeal_ReferenceIdeal_pre_pi_is_3210_Kernel (hKernelIdeal := hKernelIdeal) (hReferenceIdeal := hReferenceIdeal) (hPre_pi_is_3210_Kernel := hPre_pi_is_3210_Kernel)
-- ==== Pre_pi_is_0123_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 0#32 | 1 => 1#32 | 2 => 2#32 | 3 => 3#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_0123_ReferenceIdeal.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 0#32 | 1 => 1#32 | 2 => 2#32 | 3 => 3#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_0132_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 0#32 | 1 => 1#32 | 2 => 3#32 | 3 => 2#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_0132_ReferenceIdeal.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 0#32 | 1 => 1#32 | 2 => 3#32 | 3 => 2#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_0213_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 0#32 | 1 => 2#32 | 2 => 1#32 | 3 => 3#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_0213_ReferenceIdeal.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 0#32 | 1 => 2#32 | 2 => 1#32 | 3 => 3#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_0231_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 0#32 | 1 => 2#32 | 2 => 3#32 | 3 => 1#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_0231_ReferenceIdeal.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 0#32 | 1 => 2#32 | 2 => 3#32 | 3 => 1#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_0312_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 0#32 | 1 => 3#32 | 2 => 1#32 | 3 => 2#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_0312_ReferenceIdeal.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 0#32 | 1 => 3#32 | 2 => 1#32 | 3 => 2#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_0321_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 0#32 | 1 => 3#32 | 2 => 2#32 | 3 => 1#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_0321_ReferenceIdeal.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 0#32 | 1 => 3#32 | 2 => 2#32 | 3 => 1#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_1023_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 1#32 | 1 => 0#32 | 2 => 2#32 | 3 => 3#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_1023_ReferenceIdeal.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 1#32 | 1 => 0#32 | 2 => 2#32 | 3 => 3#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_1032_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 1#32 | 1 => 0#32 | 2 => 3#32 | 3 => 2#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_1032_ReferenceIdeal.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 1#32 | 1 => 0#32 | 2 => 3#32 | 3 => 2#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_1203_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 1#32 | 1 => 2#32 | 2 => 0#32 | 3 => 3#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_1203_ReferenceIdeal.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 1#32 | 1 => 2#32 | 2 => 0#32 | 3 => 3#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_1230_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 1#32 | 1 => 2#32 | 2 => 3#32 | 3 => 0#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_1230_ReferenceIdeal.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 1#32 | 1 => 2#32 | 2 => 3#32 | 3 => 0#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_1302_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 1#32 | 1 => 3#32 | 2 => 0#32 | 3 => 2#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_1302_ReferenceIdeal.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 1#32 | 1 => 3#32 | 2 => 0#32 | 3 => 2#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_1320_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 1#32 | 1 => 3#32 | 2 => 2#32 | 3 => 0#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_1320_ReferenceIdeal.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 1#32 | 1 => 3#32 | 2 => 2#32 | 3 => 0#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_2013_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 2#32 | 1 => 0#32 | 2 => 1#32 | 3 => 3#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_2013_ReferenceIdeal.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 2#32 | 1 => 0#32 | 2 => 1#32 | 3 => 3#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_2031_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 2#32 | 1 => 0#32 | 2 => 3#32 | 3 => 1#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_2031_ReferenceIdeal.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 2#32 | 1 => 0#32 | 2 => 3#32 | 3 => 1#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_2103_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 2#32 | 1 => 1#32 | 2 => 0#32 | 3 => 3#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_2103_ReferenceIdeal.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 2#32 | 1 => 1#32 | 2 => 0#32 | 3 => 3#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_2130_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 2#32 | 1 => 1#32 | 2 => 3#32 | 3 => 0#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_2130_ReferenceIdeal.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 2#32 | 1 => 1#32 | 2 => 3#32 | 3 => 0#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_2301_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 2#32 | 1 => 3#32 | 2 => 0#32 | 3 => 1#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_2301_ReferenceIdeal.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 2#32 | 1 => 3#32 | 2 => 0#32 | 3 => 1#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_2310_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 2#32 | 1 => 3#32 | 2 => 1#32 | 3 => 0#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_2310_ReferenceIdeal.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 2#32 | 1 => 3#32 | 2 => 1#32 | 3 => 0#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_3012_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 3#32 | 1 => 0#32 | 2 => 1#32 | 3 => 2#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_3012_ReferenceIdeal.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 3#32 | 1 => 0#32 | 2 => 1#32 | 3 => 2#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_3021_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 3#32 | 1 => 0#32 | 2 => 2#32 | 3 => 1#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_3021_ReferenceIdeal.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 3#32 | 1 => 0#32 | 2 => 2#32 | 3 => 1#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_3102_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 3#32 | 1 => 1#32 | 2 => 0#32 | 3 => 2#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_3102_ReferenceIdeal.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 3#32 | 1 => 1#32 | 2 => 0#32 | 3 => 2#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_3120_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 3#32 | 1 => 1#32 | 2 => 2#32 | 3 => 0#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_3120_ReferenceIdeal.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 3#32 | 1 => 1#32 | 2 => 2#32 | 3 => 0#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_3201_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 3#32 | 1 => 2#32 | 2 => 0#32 | 3 => 1#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_3201_ReferenceIdeal.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 3#32 | 1 => 2#32 | 2 => 0#32 | 3 => 1#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_3210_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 3#32 | 1 => 2#32 | 2 => 1#32 | 3 => 0#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_3210_ReferenceIdeal.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 3#32 | 1 => 2#32 | 2 => 1#32 | 3 => 0#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Kernel.lean ====
abbrev S1x1024x1024 : Shape := ⟨3, ![1, 1024, 1024]⟩
abbrev S4 : Shape := ⟨1, ![4]⟩
abbrev S1024x1024 : Shape := ⟨2, ![1024, 1024]⟩
abbrev S4x1024 : Shape := ⟨2, ![4, 1024]⟩
abbrev S1 : Shape := ⟨1, ![1]⟩
abbrev S_ : Shape := ⟨0, ![]⟩
abbrev S1x256x1024 : Shape := ⟨3, ![1, 256, 1024]⟩
abbrev S256x1024 : Shape := ⟨2, ![256, 1024]⟩
abbrev S1024 : Shape := ⟨1, ![1024]⟩
abbrev S1x1024 : Shape := ⟨2, ![1, 1024]⟩

abbrev nBuf : Space → Nat
  | .hbm => 3
  | .vmem => 6
  | .smem => 1
  | _ => 0

abbrev bufTy : (tb : Table) → Fin (tcTables nBuf tb) → BufTy
  | .hbm, ⟨0, _⟩ => ⟨S1x1024x1024, .f32⟩
  | .hbm, ⟨1, _⟩ => ⟨S4, .i32⟩
  | .hbm, ⟨2, _⟩ => ⟨S1x1024x1024, .bf16⟩
  | .local _ .vmem, ⟨0, _⟩ => ⟨S1x1024x1024, .f32⟩
  | .local _ .vmem, ⟨1, _⟩ => ⟨S1x1024x1024, .bf16⟩
  | .local _ .vmem, ⟨2, _⟩ => ⟨S1024x1024, .i8⟩
  | .local _ .vmem, ⟨3, _⟩ => ⟨S4x1024, .f32⟩
  | .local _ .vmem, ⟨4, _⟩ => ⟨S1024x1024, .i8⟩
  | .local _ .vmem, ⟨5, _⟩ => ⟨S4x1024, .f32⟩
  | .local _ .smem, ⟨0, _⟩ => ⟨S4, .i32⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg2_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_stg1_0 : Ref sig .tc := ⟨.smem, 0, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_off1 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : Index := Scalar.indexCast v2
  ![v3.toNat]
def k0_dev1 (d0 : Dev nD) (v5 : BitVec 32) (v8 : BitVec 32) (v11 : BitVec 32) (v14 : BitVec 32) : Nat :=
  let c0_i32_4 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v15 : BitVec 1 := Scalar.cmpi .eq v14 v2
  let c3_i32 : BitVec 32 := 3#32
  let v12 : BitVec 1 := Scalar.cmpi .eq v11 v2
  let c2_i32 : BitVec 32 := 2#32
  let v9 : BitVec 1 := Scalar.cmpi .eq v8 v2
  let c1_i32_1 : BitVec 32 := 1#32
  let v6 : BitVec 1 := Scalar.cmpi .eq v5 v2
  let c0_i32 : BitVec 32 := 0#32
  let c0_i32_0 : BitVec 32 := 0#32
  let v7 : BitVec 32 := Scalar.select v6 c0_i32 c0_i32_0
  let v10 : BitVec 32 := Scalar.select v9 c1_i32_1 v7
  let v13 : BitVec 32 := Scalar.select v12 c2_i32 v10
  let v16 : BitVec 32 := Scalar.select v15 c3_i32 v13
  let c1_i32_3 : BitVec 32 := 1#32
  let v18 : BitVec 32 := Scalar.muli v16 c1_i32_3
  let v19 : BitVec 32 := Scalar.addi c0_i32_4 v18
  v19.toNat

def k0_chk1 (d0 : Dev nD) (v5 : BitVec 32) (v8 : BitVec 32) (v11 : BitVec 32) (v14 : BitVec 32) : Prop :=
  ((k0_dev1 d0 v5 v8 v11 v14) < nD)
theorem k0_dev1_lt : ∀ (d0 : Dev nD) (v5 : BitVec 32) (v8 : BitVec 32) (v11 : BitVec 32) (v14 : BitVec 32) (k0_hw1 : k0_chk1 d0 v5 v8 v11 v14), (k0_dev1 d0 v5 v8 v11 v14) < nD := fun d0 v5 v8 v11 v14 k0_hw1 => k0_hw1

def k0_dev2 (v4 : BitVec 32) : Nat :=
  let c0_i32_20 : BitVec 32 := 0#32
  let c1_i32_19 : BitVec 32 := 1#32
  let v43 : BitVec 32 := Scalar.muli v4 c1_i32_19
  let v44 : BitVec 32 := Scalar.addi c0_i32_20 v43
  v44.toNat

def k0_dev3 (v4 : BitVec 32) : Nat :=
  let c0_i32_28 : BitVec 32 := 0#32
  let c1_i32_27 : BitVec 32 := 1#32
  let v51 : BitVec 32 := Scalar.muli v4 c1_i32_27
  let v52 : BitVec 32 := Scalar.addi c0_i32_28 v51
  v52.toNat
def k0_dev4 (v4 : BitVec 32) : Nat :=
  let c0_i32_47 : BitVec 32 := 0#32
  let c1_i32_46 : BitVec 32 := 1#32
  let v82 : BitVec 32 := Scalar.muli v4 c1_i32_46
  let v83 : BitVec 32 := Scalar.addi c0_i32_47 v82
  v83.toNat
def k0_dev5 (v4 : BitVec 32) : Nat :=
  let c0_i32_54 : BitVec 32 := 0#32
  let c1_i32_53 : BitVec 32 := 1#32
  let v90 : BitVec 32 := Scalar.muli v4 c1_i32_53
  let v91 : BitVec 32 := Scalar.addi c0_i32_54 v90
  v91.toNat
def k0_dev6 (v4 : BitVec 32) : Nat :=
  let c0_i32_73 : BitVec 32 := 0#32
  let c1_i32_72 : BitVec 32 := 1#32
  let v121 : BitVec 32 := Scalar.muli v4 c1_i32_72
  let v122 : BitVec 32 := Scalar.addi c0_i32_73 v121
  v122.toNat
def k0_dev7 (v4 : BitVec 32) : Nat :=
  let c0_i32_80 : BitVec 32 := 0#32
  let c1_i32_79 : BitVec 32 := 1#32
  let v129 : BitVec 32 := Scalar.muli v4 c1_i32_79
  let v130 : BitVec 32 := Scalar.addi c0_i32_80 v129
  v130.toNat
def k0_dev8 (v4 : BitVec 32) : Nat :=
  let c0_i32_99 : BitVec 32 := 0#32
  let c1_i32_98 : BitVec 32 := 1#32
  let v160 : BitVec 32 := Scalar.muli v4 c1_i32_98
  let v161 : BitVec 32 := Scalar.addi c0_i32_99 v160
  v161.toNat
def k0_dev9 (v4 : BitVec 32) : Nat :=
  let c0_i32_106 : BitVec 32 := 0#32
  let c1_i32_105 : BitVec 32 := 1#32
  let v168 : BitVec 32 := Scalar.muli v4 c1_i32_105
  let v169 : BitVec 32 := Scalar.addi c0_i32_106 v168
  v169.toNat

def k0_chk2 (v4 : BitVec 32) : Prop :=
  ((k0_dev2 v4) < nD) ∧
  ((k0_dev3 v4) < nD) ∧
  ((k0_dev4 v4) < nD) ∧
  ((k0_dev5 v4) < nD) ∧
  ((k0_dev6 v4) < nD) ∧
  ((k0_dev7 v4) < nD) ∧
  ((k0_dev8 v4) < nD) ∧
  ((k0_dev9 v4) < nD)
theorem k0_dev2_lt : ∀ (v4 : BitVec 32) (k0_hw2 : k0_chk2 v4), (k0_dev2 v4) < nD := fun v4 k0_hw2 => k0_hw2.1
theorem k0_dev3_lt : ∀ (v4 : BitVec 32) (k0_hw2 : k0_chk2 v4), (k0_dev3 v4) < nD := fun v4 k0_hw2 => k0_hw2.2.1
theorem k0_dev4_lt : ∀ (v4 : BitVec 32) (k0_hw2 : k0_chk2 v4), (k0_dev4 v4) < nD := fun v4 k0_hw2 => k0_hw2.2.2.1
theorem k0_dev5_lt : ∀ (v4 : BitVec 32) (k0_hw2 : k0_chk2 v4), (k0_dev5 v4) < nD := fun v4 k0_hw2 => k0_hw2.2.2.2.1
theorem k0_dev6_lt : ∀ (v4 : BitVec 32) (k0_hw2 : k0_chk2 v4), (k0_dev6 v4) < nD := fun v4 k0_hw2 => k0_hw2.2.2.2.2.1
theorem k0_dev7_lt : ∀ (v4 : BitVec 32) (k0_hw2 : k0_chk2 v4), (k0_dev7 v4) < nD := fun v4 k0_hw2 => k0_hw2.2.2.2.2.2.1
theorem k0_dev8_lt : ∀ (v4 : BitVec 32) (k0_hw2 : k0_chk2 v4), (k0_dev8 v4) < nD := fun v4 k0_hw2 => k0_hw2.2.2.2.2.2.2.1
theorem k0_dev9_lt : ∀ (v4 : BitVec 32) (k0_hw2 : k0_chk2 v4), (k0_dev9 v4) < nD := fun v4 k0_hw2 => k0_hw2.2.2.2.2.2.2.2

abbrev stage0_0 : Fin 1 → Memref sig .tc .vmem S1x1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S4 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== KernelIdeal.lean ====
variable {F : FTy → Type} [FloatOps F] [Named F]
def κ : String → Option EReal := fun
  | "inv127" => some ((1 / 127 : ℝ) : EReal)
  | _ => none
-- ==== ReferenceIdeal.lean ====
abbrev S4x1024x1024 : Shape := ⟨3, ![4, 1024, 1024]⟩
abbrev S4 : Shape := ⟨1, ![4]⟩
abbrev S4x4x256x1024 : Shape := ⟨4, ![4, 4, 256, 1024]⟩
abbrev S_ : Shape := ⟨0, ![]⟩
abbrev S4x4x1024 : Shape := ⟨3, ![4, 4, 1024]⟩
abbrev S4x4x1x1024 : Shape := ⟨4, ![4, 4, 1, 1024]⟩
abbrev S4x1 : Shape := ⟨2, ![4, 1]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x1024, .f32⟩
  | .hbm, ⟨1, _⟩ => ⟨S4, .i32⟩
  | .hbm, ⟨2, _⟩ => ⟨S4x4x256x1024, .f32⟩
  | .hbm, ⟨3, _⟩ => ⟨S4x4x256x1024, .f32⟩
  | .hbm, ⟨4, _⟩ => ⟨S_, .f32⟩
  | .hbm, ⟨5, _⟩ => ⟨S4x4x1024, .f32⟩
  | .hbm, ⟨6, _⟩ => ⟨S4x4x1x1024, .f32⟩
  | .hbm, ⟨7, _⟩ => ⟨S_, .f32⟩
  | .hbm, ⟨8, _⟩ => ⟨S4x4x1x1024, .f32⟩
  | .hbm, ⟨9, _⟩ => ⟨S4x4x1x1024, .i1⟩
  | .hbm, ⟨10, _⟩ => ⟨S_, .f32⟩
  | .hbm, ⟨11, _⟩ => ⟨S_, .f32⟩
  | .hbm, ⟨12, _⟩ => ⟨S4x4x1x1024, .f32⟩
  | .hbm, ⟨13, _⟩ => ⟨S4x4x1x1024, .f32⟩
  | .hbm, ⟨14, _⟩ => ⟨S_, .f32⟩
  | .hbm, ⟨15, _⟩ => ⟨S4x4x1x1024, .f32⟩
  | .hbm, ⟨16, _⟩ => ⟨S4x4x1x1024, .f32⟩
  | .hbm, ⟨17, _⟩ => ⟨S4x4x256x1024, .f32⟩
  | .hbm, ⟨18, _⟩ => ⟨S4x4x256x1024, .f32⟩
  | .hbm, ⟨19, _⟩ => ⟨S4x4x256x1024, .f32⟩
  | .hbm, ⟨20, _⟩ => ⟨S4x4x256x1024, .i32⟩
  | .hbm, ⟨21, _⟩ => ⟨S4x4x256x1024, .i8⟩
  | .hbm, ⟨22, _⟩ => ⟨S4x4x256x1024, .i32⟩
  | .hbm, ⟨23, _⟩ => ⟨S4x4x256x1024, .f32⟩
  | .hbm, ⟨24, _⟩ => ⟨S4x4x256x1024, .f32⟩
  | .hbm, ⟨25, _⟩ => ⟨S4x4x256x1024, .f32⟩
  | .hbm, ⟨26, _⟩ => ⟨S4x1024x1024, .f32⟩
  | .hbm, ⟨27, _⟩ => ⟨S4, .i32⟩
  | .hbm, ⟨28, _⟩ => ⟨S4, .i32⟩
  | .hbm, ⟨29, _⟩ => ⟨S4, .i32⟩
  | .hbm, ⟨30, _⟩ => ⟨S_, .i32⟩
  | .hbm, ⟨31, _⟩ => ⟨S4, .i32⟩
  | .hbm, ⟨32, _⟩ => ⟨S4, .i1⟩
  | .hbm, ⟨33, _⟩ => ⟨S_, .i32⟩
  | .hbm, ⟨34, _⟩ => ⟨S4, .i32⟩
  | .hbm, ⟨35, _⟩ => ⟨S4, .i32⟩
  | .hbm, ⟨36, _⟩ => ⟨S4, .i32⟩
  | .hbm, ⟨37, _⟩ => ⟨S4x1, .i32⟩
  | .hbm, ⟨38, _⟩ => ⟨S4x1024x1024, .f32⟩
  | .hbm, ⟨39, _⟩ => ⟨S4x1024x1024, .bf16⟩
  | _, _ => ⟨S4x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_call0_v0 : Ref sig .tc := ⟨.hbm, 11, rfl⟩
abbrev main_call0_v1 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call2_v0 : Ref sig .tc := ⟨.hbm, 27, rfl⟩
abbrev main_call2_v1_0 : Ref sig .tc := ⟨.hbm, 28, rfl⟩
abbrev main_v19 : Ref sig .tc := ⟨.hbm, 29, rfl⟩
abbrev main_c : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]
-- ==== Proof.IdealProto.lean ====
/-
# The exchange of quantised blocks: what travels, over which semaphores, in what order

Four devices hold one block `x` each and one table `pi`, the same on all: device `c` quantises its block in four
chunks of 256 rows, sends chunk `k` — the small integers and the row of scales — to device `σ c` (its word of the
table), receives the chunks of `σ⁻¹ c`, and writes them back multiplied out. Everything below is stated for an
arbitrary permutation `σ` of the devices and arbitrary float operations.

The protocol, one round per semaphore cell, one duty per cell:

* device `c`'s BARRIER cell is paid one unit by `σ c` — the device `c` sends to — which hands over its landing
  buffers, cut into the four chunks' rows; `c` waits for that unit before it sends anything.
* device `c`'s SEND cells (one per chunk for the integers, one for the scales) are paid by its own transfers, which
  hand the sent rows back.
* device `c`'s RECEIVE cells are paid by the transfers of `σ⁻¹ c`, which hand over the landing rows holding chunk
  `k` of what `σ⁻¹ c` quantised.
-/
module

public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.MemrefSat
public import Idealize.ShloMosaic.Lib.Tactic

@[expose] public section

noncomputable section

namespace Cert.KernelIdeal.Wire

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## The resource algebra: the staging's rounds and the exchange's -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (σ : Dev nD ≃ Dev nD) (m : (ℓ : Loc nD τ sig) → Buf (Elt F) ℓ)

/-! ## The buffers and their row blocks -/

abbrev xM : Memref sig .tc .vmem S1x1024x1024 .f32 := Memref.whole cc0_stg0_0
abbrev pM : Memref sig .tc .smem S4 .i32 := Memref.whole cc0_stg1_0
abbrev oM : Memref sig .tc .vmem S1x1024x1024 .bf16 := Memref.whole cc0_stg2_0
abbrev qsM : Memref sig .tc .vmem S1024x1024 .i8 := Memref.whole cc0_scratch0
abbrev ssM : Memref sig .tc .vmem S4x1024 .f32 := Memref.whole cc0_scratch1
abbrev qrM : Memref sig .tc .vmem S1024x1024 .i8 := Memref.whole cc0_scratch2
abbrev srM : Memref sig .tc .vmem S4x1024 .f32 := Memref.whole cc0_scratch3

theorem inbQ : ∀ k : Fin 4, ∀ a, (![256 * k.val, 0] : Fin 2 → ℕ) a + S256x1024.size a ≤ S1024x1024.size a := by decide
theorem inbS : ∀ k : Fin 4, ∀ a, (![k.val, 0] : Fin 2 → ℕ) a + S1x1024.size a ≤ S4x1024.size a := by decide
theorem inbX : ∀ k : Fin 4, ∀ a, (![0, 256 * k.val, 0] : Fin 3 → ℕ) a + S1x256x1024.size a ≤ S1x1024x1024.size a := by decide

/-- Chunk `k`'s rows of an integer buffer, of a scale buffer, of a block. -/
abbrev rQ (k : Fin 4) : Rect S1024x1024 := Rect.unit (s := S1024x1024) ![256 * k.val, 0] S256x1024.size (inbQ k)
abbrev rS (k : Fin 4) : Rect S4x1024 := Rect.unit (s := S4x1024) ![k.val, 0] S1x1024.size (inbS k)
abbrev rX (k : Fin 4) : Rect S1x1024x1024 := Rect.unit (s := S1x1024x1024) ![0, 256 * k.val, 0] S1x256x1024.size (inbX k)

theorem rQ_disjoint (k k' : Fin 4) (h : k ≠ k') : Disjoint (rQ k).set (rQ k').set := by
  rw [Finset.disjoint_left]
  intro i hi hi'
  have h1 := (Rect.mem_set_unit.mp hi) 0
  have h2 := (Rect.mem_set_unit.mp hi') 0
  have e1 : (![256 * k.val, 0] : Fin 2 → ℕ) 0 = 256 * k.val := rfl
  have e2 : (![256 * k'.val, 0] : Fin 2 → ℕ) 0 = 256 * k'.val := rfl
  have e3 : S256x1024.size 0 = 256 := rfl
  rw [e1, e3] at h1; rw [e2, e3] at h2
  exact h (Fin.ext (by omega))
theorem rS_disjoint (k k' : Fin 4) (h : k ≠ k') : Disjoint (rS k).set (rS k').set := by
  rw [Finset.disjoint_left]
  intro i hi hi'
  have h1 := (Rect.mem_set_unit.mp hi) 0
  have h2 := (Rect.mem_set_unit.mp hi') 0
  have e1 : (![k.val, 0] : Fin 2 → ℕ) 0 = k.val := rfl
  have e2 : (![k'.val, 0] : Fin 2 → ℕ) 0 = k'.val := rfl
  have e3 : S1x1024.size 0 = 1 := rfl
  rw [e1, e3] at h1; rw [e2, e3] at h2
  exact h (Fin.ext (by omega))
theorem rX_disjoint (k k' : Fin 4) (h : k ≠ k') : Disjoint (rX k).set (rX k').set := by
  rw [Finset.disjoint_left]
  intro i hi hi'
  have h1 := (Rect.mem_set_unit.mp hi) 1
  have h2 := (Rect.mem_set_unit.mp hi') 1
  have e1 : (![0, 256 * k.val, 0] : Fin 3 → ℕ) 1 = 256 * k.val := rfl
  have e2 : (![0, 256 * k'.val, 0] : Fin 3 → ℕ) 1 = 256 * k'.val := rfl
  have e3 : S1x256x1024.size 1 = 256 := rfl
  rw [e1, e3] at h1; rw [e2, e3] at h2
  exact h (Fin.ext (by omega))

theorem rQ_cover : (Finset.univ : Finset (Fin 4)).biUnion (fun k => (rQ k).set) = Finset.univ := by
  refine Finset.eq_univ_iff_forall.mpr fun i => Finset.mem_biUnion.mpr ?_
  have hi : (i 0).val < 1024 := (i 0).isLt
  refine ⟨⟨(i 0).val / 256, by omega⟩, Finset.mem_univ _, Rect.mem_set_unit.mpr fun a => ?_⟩
  fin_cases a
  · show 256 * ((i 0).val / 256) ≤ (i 0).val ∧ (i 0).val < 256 * ((i 0).val / 256) + 256
    omega
  · show 0 ≤ (i 1).val ∧ (i 1).val < 0 + 1024
    have : (i 1).val < 1024 := (i 1).isLt
    omega
theorem rS_cover : (Finset.univ : Finset (Fin 4)).biUnion (fun k => (rS k).set) = Finset.univ := by
  refine Finset.eq_univ_iff_forall.mpr fun i => Finset.mem_biUnion.mpr ?_
  have hi : (i 0).val < 4 := (i 0).isLt
  refine ⟨⟨(i 0).val, hi⟩, Finset.mem_univ _, Rect.mem_set_unit.mpr fun a => ?_⟩
  fin_cases a
  · show (i 0).val ≤ (i 0).val ∧ (i 0).val < (i 0).val + 1
    omega
  · show 0 ≤ (i 1).val ∧ (i 1).val < 0 + 1024
    have : (i 1).val < 1024 := (i 1).isLt
    omega
theorem rX_cover : (Finset.univ : Finset (Fin 4)).biUnion (fun k => (rX k).set) = Finset.univ := by
  refine Finset.eq_univ_iff_forall.mpr fun i => Finset.mem_biUnion.mpr ?_
  have hi : (i 1).val < 1024 := (i 1).isLt
  refine ⟨⟨(i 1).val / 256, by omega⟩, Finset.mem_univ _, Rect.mem_set_unit.mpr fun a => ?_⟩
  fin_cases a
  · show 0 ≤ (i 0).val ∧ (i 0).val < 0 + 1
    have : (i 0).val < 1 := (i 0).isLt
    omega
  · show 256 * ((i 1).val / 256) ≤ (i 1).val ∧ (i 1).val < 256 * ((i 1).val / 256) + 256
    omega
  · show 0 ≤ (i 2).val ∧ (i 2).val < 0 + 1024
    have : (i 2).val < 1024 := (i 2).isLt
    omega

/-- The chunks of the four buffers the transfers read and write. -/
abbrev qsP (k : Fin 4) : Memref sig .tc .vmem S256x1024 .i8 := qsM.slice (rQ k) (fun _ => rfl)
abbrev qrP (k : Fin 4) : Memref sig .tc .vmem S256x1024 .i8 := qrM.slice (rQ k) (fun _ => rfl)
abbrev ssP (k : Fin 4) : Memref sig .tc .vmem S1x1024 .f32 := ssM.slice (rS k) (fun _ => rfl)
abbrev srP (k : Fin 4) : Memref sig .tc .vmem S1x1024 .f32 := srM.slice (rS k) (fun _ => rfl)
abbrev oP (k : Fin 4) : Memref sig .tc .vmem S1x256x1024 .bf16 := oM.slice (rX k) (fun _ => rfl)

/-- What a landed chunk of integers, a landed row of scales credits its semaphore with. -/
abbrev NQ : ℕ := (qrP 0).view.dmaCredit
abbrev NS : ℕ := (srP 0).view.dmaCredit
theorem NQ_pos : 0 < NQ := View.dmaCredit_pos _ (by decide)
theorem NS_pos : 0 < NS := View.dmaCredit_pos _ (by decide)

/-! ## The semaphore cells -/

/-- The runtime's barrier semaphore. -/
abbrev barS : Sem sig := (SemArray.scalar (sig.barrier 0 rfl) : Sems sig S_).sem
/-- The exchange's sixteen transfer semaphores: family `0` counts sent integers, `1` landed integers, `2` sent
    scales, `3` landed scales; one of each per chunk. -/
def dsem (j k : Fin 4) : DmaSem sig := ⟨3 + 4 * j.val + k.val, by
  have hj := j.isLt; have hk := k.isLt; show _ < 19; omega⟩
def fam (s : DmaSem sig) : Fin 4 := ⟨((s.val + 1) / 4 - 1) % 4, Nat.mod_lt _ (by decide)⟩
def chk (s : DmaSem sig) : Fin 4 := ⟨(s.val + 1) % 4, Nat.mod_lt _ (by decide)⟩
theorem fam_dsem : ∀ j k, fam (dsem j k) = j := by decide
theorem chk_dsem : ∀ j k, chk (dsem j k) = k := by decide

abbrev barCell (c : Dev nD) : GSem nD τ sig := ((c : Thread nD τ), .reg barS)
abbrev dcell (c : Dev nD) (j k : Fin 4) : GSem nD τ sig := ((c : Thread nD τ), .dma (dsem j k))

def amt (j : Fin 4) : ℕ := if j.val < 2 then NQ else NS
theorem amt_pos (j : Fin 4) : 0 < amt j := by unfold amt; split; exacts [NQ_pos, NS_pos]

/-- The kernel's own semaphores as the launch lists them, and all seventeen of the exchange. -/
abbrev osem : Fin 16 → SemLoc sig := fun i => .dma ⟨3 + i.val, by have := i.isLt; show _ < 19; omega⟩
abbrev csem : Fin 17 → SemLoc sig := Fin.cases (.reg barS) osem
abbrev kcell (ck : Dev nD × Fin 17) : GSem nD τ sig := ((ck.1 : Thread nD τ), csem ck.2)
/-- Where the cell of family `j`, chunk `k` stands among the seventeen. -/
def cix (j k : Fin 4) : Fin 17 := Fin.succ ⟨4 * j.val + k.val, by have hj := j.isLt; have hk := k.isLt; omega⟩
theorem csem_cix : ∀ j k, csem (cix j k) = .dma (dsem j k) := by decide
theorem kcell_cix (c : Dev nD) (j k : Fin 4) : kcell (c, cix j k) = dcell c j k := by
  show ((c : Thread nD τ), csem (cix j k)) = _; rw [csem_cix]

/-! ## The contents -/

/-- Device `c`'s staged block of `x` and its staged table. -/
def xstg (c : Dev nD) : (cc0_stg0_0 : Ref sig .tc).ty.Contents (Elt F) :=
  (win0_0.blk (0 : Fin 1)).view.read (Elt F) (m ((c : Thread nD τ).loc main_arg0))
def pstg (c : Dev nD) : (cc0_stg1_0 : Ref sig .tc).ty.Contents (Elt F) :=
  (win0_1.blk (0 : Fin 1)).view.read (Elt F) (m ((c : Thread nD τ).loc main_arg1))

/-- Chunk `k` of device `c`'s block, its quantised integers, its row of scales, and the product of the two. -/
def xc (c : Dev nD) (k : Fin 4) : Vec F S1x256x1024 .f32 :=
  xM.view.readAt (Elt F) (rX k).toLoadRect (xstg m c)
def qC (c : Dev nD) (k : Fin 4) : Vec F S256x1024 .i8 := k0_pay13 (xc m c k)
def sC (c : Dev nD) (k : Fin 4) : Vec F S1x1024 .f32 := k0_pay14 (xc m c k)
def oC (c : Dev nD) (k : Fin 4) : Vec F S1x256x1024 .bf16 := k0_pay21 (qC m c k) (sC m c k)

/-! ## The schedule -/

/-- Device `d`'s landing rows for chunk `k`, holding anything. -/
def land (d : Dev nD) (k : Fin 4) : sProp 𝕄 :=
  iprop((∃ X, owns (d : Thread nD τ) (qrP k) fullShare X) ∗ (∃ X, owns (d : Thread nD τ) (srP k) fullShare X))
/-- What the one unit on `c`'s barrier brings: all landing rows of the device `c` sends to. -/
def barPay (c : Dev nD) : sProp 𝕄 :=
  iprop(land (σ c) 0 ∗ land (σ c) 1 ∗ land (σ c) 2 ∗ land (σ c) 3)
def dmaPay (c : Dev nD) (j k : Fin 4) : sProp 𝕄 := match j with
  | 0 => owns (c : Thread nD τ) (qsP k) fullShare (qC m c k)
  | 1 => owns (c : Thread nD τ) (qrP k) fullShare (qC m (σ.symm c) k)
  | 2 => owns (c : Thread nD τ) (ssP k) fullShare (sC m c k)
  | 3 => owns (c : Thread nD τ) (srP k) fullShare (sC m (σ.symm c) k)

instance land_storable (d : Dev nD) (k : Fin 4) : BI.Storable (upEmb : UEmb _ 𝕄) (land (F := F) d k) := by unfold land; infer_instance
instance barPay_storable (c : Dev nD) : BI.Storable (upEmb : UEmb _ 𝕄) (barPay (F := F) σ c) := by unfold barPay; infer_instance
instance dmaPay_storable (c : Dev nD) (j k : Fin 4) : BI.Storable (upEmb : UEmb _ 𝕄) (dmaPay (F := F) σ m c j k) := by
  unfold dmaPay; split <;> infer_instance

/-- The exchange's own semaphores among all of a core's. -/
def own : SemLoc sig → Bool
  | .reg s => s == barS
  | .dma s => decide (3 ≤ s.val)
theorem own_dsem : ∀ j k, own (.dma (dsem j k)) = true := by decide
theorem own_bar : own (.reg barS) = true := by decide

def rd : Rounds.Schedule (GSem nD τ sig) Unit 𝕄 where
  duties g r := if r = 0 ∧ g.1.2 = .tc ∧ own g.2 = true then {()} else ∅
  unitless _ := False
  amount g _ _ := match g.2 with
    | .reg _ => 1
    | .dma s => amt (fam s)
  payload g _ _ := match g.2 with
    | .reg _ => barPay σ g.1.1
    | .dma s => dmaPay σ m g.1.1 (fam s) (chk s)
  amount_pos g _ _ _ := by
    show 0 < (match g.2 with | .reg _ => 1 | .dma s => amt (fam s))
    split
    · exact Nat.one_pos
    · exact amt_pos _

instance rd_payload_storable (g : GSem nD τ sig) (r : ℕ) (d : Unit) :
    BI.Storable (upEmb : UEmb _ 𝕄) ((rd (F := F) σ m).payload g r d) := by
  show BI.Storable upEmb (match g.2 with | .reg _ => barPay σ g.1.1 | .dma s => dmaPay σ m g.1.1 (fam s) (chk s))
  split <;> infer_instance

section Sched
variable (c : Dev nD) (j k : Fin 4)

theorem duties_bar : (rd (F := F) σ m).duties (barCell c) 0 = {()} := by
  dsimp only [rd]; exact if_pos ⟨rfl, rfl, own_bar⟩
theorem duties_dma : (rd (F := F) σ m).duties (dcell c j k) 0 = {()} := by
  dsimp only [rd]; exact if_pos ⟨rfl, rfl, own_dsem j k⟩
theorem duties_later (g : GSem nD τ sig) : ∀ r, 1 ≤ r → (rd (F := F) σ m).duties g r = ∅ :=
  fun r hr => if_neg fun h => by omega
theorem amount_bar (u : Unit) : (rd (F := F) σ m).amount (barCell c) 0 u = 1 := rfl
theorem amount_dma (u : Unit) : (rd (F := F) σ m).amount (dcell c j k) 0 u = amt j := by
  show amt (fam (dsem j k)) = _; rw [fam_dsem]
theorem expect_bar : (rd (F := F) σ m).expect (barCell c) 0 = 1 := by
  unfold Schedule.expect Schedule.amountOf; rw [duties_bar, Finset.sum_singleton, amount_bar]
theorem expect_dma : (rd (F := F) σ m).expect (dcell c j k) 0 = amt j := by
  unfold Schedule.expect Schedule.amountOf; rw [duties_dma, Finset.sum_singleton, amount_dma]
theorem payload_bar (u : Unit) : (rd (F := F) σ m).payload (barCell c) 0 u = barPay σ c := rfl
theorem payload_dma (u : Unit) : (rd (F := F) σ m).payload (dcell c j k) 0 u = dmaPay σ m c j k := by
  show dmaPay σ m c (fam (dsem j k)) (chk (dsem j k)) = _; rw [fam_dsem, chk_dsem]
theorem rest_bar : bigSep ((rd (F := F) σ m).duties (barCell c) 0 \ ∅) (fun d => (rd (F := F) σ m).payload (barCell c) 0 d) = barPay σ c := by
  rw [Finset.sdiff_empty, duties_bar, bigSep_singleton, payload_bar]
theorem rest_dma : bigSep ((rd (F := F) σ m).duties (dcell c j k) 0 \ ∅) (fun d => (rd (F := F) σ m).payload (dcell c j k) 0 d)
    = dmaPay σ m c j k := by
  rw [Finset.sdiff_empty, duties_dma, bigSep_singleton, payload_dma]
end Sched

/-! ## What each device owes at launch; the levels -/

/-- The landings device `c` owes `σ c`, the next one to be sent first. -/
def oweL (c : Dev nD) : List (Fin 4 × Fin 4) → CellTallies nD τ sig Unit
  | [] => 0
  | (j, k) :: l => oweL c l + tallyAt (dcell (σ c) j k) () (amt j)
/-- The order of the transfers. -/
abbrev sends : List (Fin 4 × Fin 4) := [(1, 0), (3, 0), (1, 1), (3, 1), (1, 2), (3, 2), (1, 3), (3, 3)]
/-- Device `c` owes one unit on the barrier of the device it receives from, and every landing on the device it sends to. -/
def O₀ (c : Dev nD) : CellTallies nD τ sig Unit := oweL σ c sends + tallyAt (barCell (σ.symm c)) () 1

def L (g : GSem nD τ sig) : Finset Unit := if g.1.2 = .tc then {()} else ∅
/-- Barrier cells at 1, landing cells at 2, all else at 0. -/
def lv (g : GSem nD τ sig) (_ : Unit) : ℕ := match g.2 with
  | .reg _ => 1
  | .dma s => if 3 ≤ s.val ∧ ((fam s).val = 1 ∨ (fam s).val = 3) then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_landing (c : Dev nD) (j k : Fin 4) (h : j.val = 1 ∨ j.val = 3) (u : Unit) : lv (dcell c j k) u = 2 := by
  show (if 3 ≤ (dsem j k).val ∧ _ then 2 else 0) = 2
  refine if_pos ⟨?_, ?_⟩
  · show 3 ≤ 3 + 4 * j.val + k.val; omega
  · rw [fam_dsem]; exact h
theorem sends_landing : ∀ p ∈ sends, p.1.val = 1 ∨ p.1.val = 3 := by decide

theorem oweL_pos {c : Dev nD} {g : GSem nD τ sig} {u : Unit} : ∀ {l : List (Fin 4 × Fin 4)}, 0 < oweL σ c l g u →
    ∃ p ∈ l, g = dcell (σ c) p.1 p.2
  | [], h => absurd h (Nat.lt_irrefl 0)
  | (j, k) :: l, h => by
    unfold oweL at h
    rw [Pi.add_apply, Finsupp.add_apply, tallyAt_apply] at h
    by_cases hg : g = dcell (σ c) j k ∧ u = ()
    · exact ⟨(j, k), List.mem_cons_self, hg.1⟩
    · rw [if_neg hg, Nat.add_zero] at h
      obtain ⟨p, hp, e⟩ := oweL_pos h
      exact ⟨p, List.mem_cons_of_mem _ hp, e⟩

theorem O₀_pos {c : Dev nD} {g : GSem nD τ sig} {u : Unit} (h : 0 < O₀ σ c g u) :
    (∃ p ∈ sends, g = dcell (σ c) p.1 p.2) ∨ g = barCell (σ.symm c) := by
  unfold O₀ at h
  rw [Pi.add_apply, Finsupp.add_apply, tallyAt_apply] at h
  by_cases hg : g = barCell (σ.symm c) ∧ u = ()
  · exact Or.inr hg.1
  · rw [if_neg hg, Nat.add_zero] at h
    exact Or.inl (oweL_pos σ h)

theorem mayWait_stage (c : Dev nD) (q : DmaSem sig) (hq : q.val < 3) (O : CellTallies nD τ sig Unit) (hO : O = O₀ σ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos σ hg with ⟨p, -, rfl⟩ | rfl <;> exact Finset.mem_singleton_self _)
      (fun p hp => by
        rw [Finset.mem_singleton.mp hp]
        show (if 3 ≤ q.val ∧ _ then 2 else 0) ≤ 0
        rw [if_neg (fun h => by omega)])
      (fun g u hg => by
        rcases O₀_pos σ hg with ⟨p, hp, rfl⟩ | rfl
        · rw [lv_landing _ _ _ (sends_landing p hp)]; decide
        · show 0 < 1; decide)
  · rw [MayWait_zero]; iintro -; iempintro

/-- Waiting at its barrier a device owes landings only, which are above barriers. -/
theorem mayWait_bar (c : Dev nD) : (levAts L lv : sProp 𝕄) ⊢ MayWait (c : Thread nD τ) (.reg barS) () (oweL σ c sends) :=
  MayOwe.of_cut (L := L) (lev := lv) 1 (fun p hp => by rw [Finset.mem_singleton.mp hp, L_tc]; exact Finset.mem_singleton_self _)
    (fun g u hg => by obtain ⟨p, -, rfl⟩ := oweL_pos σ hg; exact Finset.mem_singleton_self _)
    (fun p hp => by rw [Finset.mem_singleton.mp hp]; exact Nat.le_refl 1)
    (fun g u hg => by
      obtain ⟨p, hp, rfl⟩ := oweL_pos σ hg
      rw [lv_landing _ _ _ (sends_landing p hp)]; decide)

/-! ## What a device starts from -/

/-- Every cell's invariant, and that every cell has reached round 0: what all devices share. -/
def records (K : Dev nD × Fin 17 → ℕ) : sProp 𝕄 :=
  iprop((bigSep Finset.univ fun ck : Dev nD × Fin 17 => cellInv ER (rd σ m) (K ck) (kcell ck))
    ∗ bigSep Finset.univ fun ck : Dev nD × Fin 17 => reached ER (kcell ck) 0)
instance records_persistent (K : Dev nD × Fin 17 → ℕ) : BI.Persistent (records σ m K) := by unfold records; infer_instance

theorem inv_at (K : Dev nD × Fin 17 → ℕ) (ck : Dev nD × Fin 17) : records σ m K ⊢ (cellInv ER (rd σ m) (K ck) (kcell ck) : sProp 𝕄) := by
  unfold records; iintro ⟨H, -⟩
  have e : (bigSep Finset.univ fun ck : Dev nD × Fin 17 => (cellInv ER (rd σ m) (K ck) (kcell ck) : sProp 𝕄)) ⊢ cellInv ER (rd σ m) (K ck) (kcell ck) :=
    bigSep_elim (Finset.mem_univ ck)
  iapply e; iexact H
theorem reached_at (K : Dev nD × Fin 17 → ℕ) (ck : Dev nD × Fin 17) : records σ m K ⊢ (reached ER (kcell ck) 0 : sProp 𝕄) := by
  unfold records; iintro ⟨-, H⟩
  have e : (bigSep Finset.univ fun ck : Dev nD × Fin 17 => (reached ER (kcell ck) 0 : sProp 𝕄)) ⊢ reached ER (kcell ck) 0 :=
    bigSep_elim (Finset.mem_univ ck)
  iapply e; iexact H
theorem inv_dma (K : Dev nD × Fin 17 → ℕ) (c : Dev nD) (j k : Fin 4) :
    records σ m K ⊢ (cellInv ER (rd σ m) (K (c, cix j k)) (dcell c j k) : sProp 𝕄) := by
  rw [← kcell_cix]; exact inv_at σ m K (c, cix j k)
theorem reached_dma (K : Dev nD × Fin 17 → ℕ) (c : Dev nD) (j k : Fin 4) : records σ m K ⊢ (reached ER (dcell c j k) 0 : sProp 𝕄) := by
  rw [← kcell_cix]; exact reached_at σ m K (c, cix j k)
theorem inv_bar (K : Dev nD × Fin 17 → ℕ) (c : Dev nD) : records σ m K ⊢ (cellInv ER (rd σ m) (K (c, 0)) (barCell c) : sProp 𝕄) :=
  inv_at σ m K (c, 0)
theorem reached_bar (K : Dev nD × Fin 17 → ℕ) (c : Dev nD) : records σ m K ⊢ (reached ER (barCell c) 0 : sProp 𝕄) :=
  reached_at σ m K (c, 0)

/-- Chunk `k`: the tokens of the four duties `c`'s transfers pay; its positions at its two send cells; at its two
    landing cells, with the landings' credit. -/
def sendTok (c : Dev nD) (k : Fin 4) : sProp 𝕄 :=
  iprop(dutyTok ER (dcell c 0 k) 0 () ∗ dutyTok ER (dcell (σ c) 1 k) 0 () ∗ dutyTok ER (dcell c 2 k) 0 () ∗ dutyTok ER (dcell (σ c) 3 k) 0 ())
def sendPos (c : Dev nD) (k : Fin 4) : sProp 𝕄 := iprop(atPos ER (dcell c 0 k) 0 ∅ 0 ∗ atPos ER (dcell c 2 k) 0 ∅ 0)
def recvPos (c : Dev nD) (k : Fin 4) : sProp 𝕄 := iprop(atPos ER (dcell c 1 k) 0 ∅ 0 ∗ atPos ER (dcell c 3 k) 0 ∅ 0)
def recvCred (c : Dev nD) (k : Fin 4) : sProp 𝕄 := iprop(cred (tallyAt (dcell c 1 k) () NQ) ∗ cred (tallyAt (dcell c 3 k) () NS))

def linear (c : Dev nD) : sProp 𝕄 :=
  iprop(atPos ER (barCell c) 0 ∅ 0 ∗ dutyTok ER (barCell (σ.symm c)) 0 ()
    ∗ (sendTok σ c 0 ∗ sendTok σ c 1 ∗ sendTok σ c 2 ∗ sendTok σ c 3)
    ∗ (sendPos c 0 ∗ sendPos c 1 ∗ sendPos c 2 ∗ sendPos c 3)
    ∗ (recvPos c 0 ∗ recvPos c 1 ∗ recvPos c 2 ∗ recvPos c 3))
def ghost (K : Dev nD × Fin 17 → ℕ) (c : Dev nD) : sProp 𝕄 := iprop(records σ m K ∗ linear σ c)
def creds (c : Dev nD) : sProp 𝕄 :=
  iprop(cred (tallyAt (barCell c) () 1) ∗ (recvCred c 0 ∗ recvCred c 1 ∗ recvCred c 2 ∗ recvCred c 3))

def start (c : Dev nD) : sProp 𝕄 := iprop((∃ K, ghost σ m K c) ∗ creds c ∗ levAts L lv)

/-- The four scratch buffers, holding anything. -/
def scratch (c : Dev nD) : sProp 𝕄 :=
  iprop((∃ X, owns (c : Thread nD τ) qsM fullShare X) ∗ (∃ X, owns (c : Thread nD τ) ssM fullShare X)
    ∗ (∃ X, owns (c : Thread nD τ) qrM fullShare X) ∗ (∃ X, owns (c : Thread nD τ) srM fullShare X))

/-- Chunk `k`'s four cells closed at zero. -/
def sendZero (c : Dev nD) (k : Fin 4) : sProp 𝕄 := iprop(semVal (dcell c 0 k) 0 ∗ semVal (dcell c 2 k) 0)
def recvZero (c : Dev nD) (k : Fin 4) : sProp 𝕄 := iprop(semVal (dcell c 1 k) 0 ∗ semVal (dcell c 3 k) 0)
def zeros (c : Dev nD) : sProp 𝕄 :=
  iprop(semVal (barCell c) 0 ∗ (sendZero c 0 ∗ sendZero c 1 ∗ sendZero c 2 ∗ sendZero c 3)
    ∗ (recvZero c 0 ∗ recvZero c 1 ∗ recvZero c 2 ∗ recvZero c 3))

def Φ₀ (c : Dev nD) : sProp 𝕄 := iprop(start σ m c ∗ scratch c)
def Φ₁ (c : Dev nD) : sProp 𝕄 := iprop(scratch c ∗ zeros c)

/-- The result on device `c`: the four multiplied-out chunks of the device it receives from, one under the other. -/
def outAt (c : Dev nD) : (cc0_stg2_0 : Ref sig .tc).ty.Contents (Elt F) :=
  Rect.glue rX rX_cover (fun k => oC m (σ.symm c) k)
theorem outAt_emb (c : Dev nD) (k : Fin 4) (i : (rX k).shape.Idx) : outAt σ m c ((rX k).emb i) = oC m (σ.symm c) k i :=
  Rect.glue_emb rX rX_cover rX_disjoint _ k i

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => pstg m c
    | ⟨2, _⟩ => outAt σ m c
  Φ t := match t with
    | ⟨0, _⟩ => Φ₀ σ m c
    | ⟨_ + 1, _⟩ => Φ₁ c
  q _ := fullShare
  owed t := match t with
    | ⟨0, _⟩ => O₀ σ c
    | ⟨_ + 1, _⟩ => 0

abbrev 𝒱₀ : Variants := Variants.none

/-- Every device's table is `σ`, word for word. -/
def PreOK : Prop := ∀ (c : Dev nD) (i : S4.Idx), pstg m c i = Dev.word (σ (i 0))

end Cert.KernelIdeal.Wire

end
-- ==== Proof.IdealSteps.lean ====
/-
# The exchange's steps, each once, for any device and any chunk

Filling a chunk of the send buffers, sending it, waiting on one of the sixteen transfer semaphores and closing it,
the handshake, and cutting buffers into chunks and putting them together again.
-/
module

public import proofs.«01_k».proof.Proof.IdealProto

@[expose] public section

noncomputable section

namespace Cert.KernelIdeal.Wire

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (σ : Dev nD ≃ Dev nD) (m : (ℓ : Loc nD τ sig) → Buf (Elt F) ℓ) (K : Dev nD × Fin 17 → ℕ) (c : Dev nD)

/-- Device `c` owes `O`, whatever it has waited for. -/
def due (O : CellTallies nD τ sig Unit) : sProp 𝕄 := iprop(∃ W, owes (c : Thread nD τ) O W)

abbrev run {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Loads and stores of a slice -/

section Access
variable {sp : CoreSpace} {s : Shape} {e : EltTy} {M : Memref sig .tc sp s e} {r : Rect s} (hr : ∀ a, r.stride a = 1)

theorem wp_load_slice {hl : M.view.LoadsAt r.toLoadRect} {α : Type} {Q : α → sProp 𝕄}
    {k : (r.shape.Idx → Elt F e) → Prog (TpuEff nD τ sig (Elt F) Λ₀ .tc) α} (X : r.shape.Idx → Elt F e) :
    (owns (c : Thread nD τ) (M.slice r hr) fullShare X : sProp 𝕄)
      ⊢ iprop((owns (c : Thread nD τ) (M.slice r hr) fullShare X -∗ run c (k X) Q) -∗ run c (.op (.load M r.toLoadRect hl) k) Q) := by
  unfold owns
  iintro ⟨%f, %hf, H⟩ Hk
  iapply (wp_load_rect 𝒱₀ (c : Thread nD τ) none Set.univ (m := M) (r := r) (f := f) (S := (M.access r).set) (Finset.Subset.refl _)) $$ [H]
  · iexact H
  iintro H
  rw [show (M.access r).read (Elt F) f = X from hf]
  iapply Hk
  iexists f; isplitr; · ipureintro; exact hf
  iexact H

theorem wp_store_slice {w : r.shape.Idx → Elt F e} {hx : (M.access r).Stores Finset.univ} {hm : Finset.univ = Finset.univ ∨ ∀ a, r.stride a = 1}
    {α : Type} {Q : α → sProp 𝕄} {k : PUnit → Prog (TpuEff nD τ sig (Elt F) Λ₀ .tc) α} (X : r.shape.Idx → Elt F e) :
    (owns (c : Thread nD τ) (M.slice r hr) fullShare X : sProp 𝕄)
      ⊢ iprop((owns (c : Thread nD τ) (M.slice r hr) fullShare w -∗ run c (k ⟨⟩) Q) -∗ run c (.op (.store M r w Finset.univ hx hm) k) Q) := by
  unfold owns
  iintro ⟨%f, %hf, H⟩ Hk
  iapply (wp_store 𝒱₀ (c : Thread nD τ) none Set.univ (m := M) (r := r) (f := f) (Mk := Finset.univ) (S := (M.access r).set) (Finset.Subset.refl _)) $$ [H]
  · iexact H
  iintro H
  iapply Hk
  iexists ((M.access r).write (Elt F) f w Finset.univ); isplitr
  · ipureintro; exact View.read_write_univ _ _
  iexact H

end Access

/-! ## Chunks of a buffer -/

omit [FloatOps F] [Named F] in
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

section Cut
variable {sp : Space} {s : Shape} {e : EltTy} (M : Memref sig .tc sp s e) (r : Fin 4 → Rect s) (hr : ∀ k a, (r k).stride a = 1)
  (hd : ∀ k k', k ≠ k' → Disjoint (r k).set (r k').set) (hcov : (Finset.univ : Finset (Fin 4)).biUnion (fun k => (r k).set) = Finset.univ)

include hd hcov in
/-- A buffer cut in its four chunks. -/
theorem cut4 : (iprop(∃ X, owns (c : Thread nD τ) M fullShare X) : sProp 𝕄)
    ⊢ iprop((∃ X, owns (c : Thread nD τ) (M.slice (r 0) (hr 0)) fullShare X) ∗ (∃ X, owns (c : Thread nD τ) (M.slice (r 1) (hr 1)) fullShare X)
      ∗ (∃ X, owns (c : Thread nD τ) (M.slice (r 2) (hr 2)) fullShare X) ∗ (∃ X, owns (c : Thread nD τ) (M.slice (r 3) (hr 3)) fullShare X)) := by
  iintro ⟨%X, H⟩
  ihave H' := (owns_rects (c : Thread nD τ) M fullShare r hr hd hcov X) $$ H
  ihave H'' := (Entails.of_eq (bigSep_fin4 _)) $$ H'
  icases H'' with ⟨H0, H1, H2, H3⟩
  isplitl [H0]; · iexists _; iexact H0
  isplitl [H1]; · iexists _; iexact H1
  isplitl [H2]; · iexists _; iexact H2
  iexists _; iexact H3

include hd in
/-- Four chunks put together. -/
theorem glue4 (Xs : ∀ k, (r k).shape.Idx → Elt F e) :
    iprop(owns (c : Thread nD τ) (M.slice (r 0) (hr 0)) fullShare (Xs 0) ∗ owns (c : Thread nD τ) (M.slice (r 1) (hr 1)) fullShare (Xs 1)
      ∗ owns (c : Thread nD τ) (M.slice (r 2) (hr 2)) fullShare (Xs 2) ∗ owns (c : Thread nD τ) (M.slice (r 3) (hr 3)) fullShare (Xs 3))
      ⊢ (owns (c : Thread nD τ) M fullShare (Rect.glue r hcov Xs) : sProp 𝕄) := by
  have h := owns_of_rects (c : Thread nD τ) M fullShare r hr hd hcov (Ix := Unit) (Name := ℕ) (U := UU) (Lvl := ℕ) (Rect.glue r hcov Xs)
  rw [bigSep_fin4] at h
  have e (k : Fin 4) : (fun j => Rect.glue r hcov Xs ((r k).emb j)) = Xs k := funext fun j => Rect.glue_emb r hcov hd Xs k j
  rw [e 0, e 1, e 2, e 3] at h
  exact h
end Cut

/-! ## The states of a chunk -/

/-- Standing at a cell with the credit to wait for it. -/
def wt (j k : Fin 4) : sProp 𝕄 := iprop(atPos ER (dcell c j k) 0 ∅ 0 ∗ cred (tallyAt (dcell c j k) () (amt j)))
/-- A cell waited for and closed: what it brought, and its counter at zero. -/
def got (j k : Fin 4) : sProp 𝕄 := iprop(dmaPay σ m c j k ∗ semVal (dcell c j k) 0)

/-- The integers of chunk `k` before they are computed; computed, before they are sent. -/
def freeQ (k : Fin 4) : sProp 𝕄 :=
  iprop(atPos ER (dcell c 0 k) 0 ∅ 0 ∗ dutyTok ER (dcell c 0 k) 0 () ∗ dutyTok ER (dcell (σ c) 1 k) 0 ()
    ∗ (∃ X, owns (c : Thread nD τ) (qsP k) fullShare X) ∗ (∃ X, owns (σ c : Thread nD τ) (qrP k) fullShare X))
def halfQ (k : Fin 4) : sProp 𝕄 :=
  iprop(atPos ER (dcell c 0 k) 0 ∅ 0 ∗ dutyTok ER (dcell c 0 k) 0 () ∗ dutyTok ER (dcell (σ c) 1 k) 0 ()
    ∗ owns (c : Thread nD τ) (qsP k) fullShare (qC m c k) ∗ (∃ X, owns (σ c : Thread nD τ) (qrP k) fullShare X))
/-- The same of the row of scales. -/
def freeS (k : Fin 4) : sProp 𝕄 :=
  iprop(atPos ER (dcell c 2 k) 0 ∅ 0 ∗ dutyTok ER (dcell c 2 k) 0 () ∗ dutyTok ER (dcell (σ c) 3 k) 0 ()
    ∗ (∃ X, owns (c : Thread nD τ) (ssP k) fullShare X) ∗ (∃ X, owns (σ c : Thread nD τ) (srP k) fullShare X))
def halfS (k : Fin 4) : sProp 𝕄 :=
  iprop(atPos ER (dcell c 2 k) 0 ∅ 0 ∗ dutyTok ER (dcell c 2 k) 0 () ∗ dutyTok ER (dcell (σ c) 3 k) 0 ()
    ∗ owns (c : Thread nD τ) (ssP k) fullShare (sC m c k) ∗ (∃ X, owns (σ c : Thread nD τ) (srP k) fullShare X))

theorem wp_fillQ (k : Fin 4) {hl} {hx} {hm} {w : Vec F S256x1024 .i8} (hw : w = qC m c k) {α : Type} {Q : α → sProp 𝕄}
    {kk : PUnit → Prog (TpuEff nD τ sig (Elt F) Λ₀ .tc) α} :
    freeQ σ c k ⊢ iprop((halfQ σ m c k -∗ run c (kk ⟨⟩) Q)
      -∗ run c (.op (.load qsM (rQ k).toLoadRect hl) fun _ => .op (.store qsM (rQ k) w Finset.univ hx hm) kk) Q) := by
  subst hw
  unfold freeQ halfQ
  iintro ⟨Ha, Ht, Ht', ⟨%X, HX⟩, HY⟩ Hk
  iapply (wp_load_slice c (M := qsM) (r := rQ k) (fun _ => rfl) X) $$ HX; iintro HX
  iapply (wp_store_slice c (M := qsM) (r := rQ k) (fun _ => rfl) X) $$ HX; iintro HX
  iapply Hk
  isplitl [Ha]; · iexact Ha
  isplitl [Ht]; · iexact Ht
  isplitl [Ht']; · iexact Ht'
  isplitl [HX] <;> iassumption

theorem wp_fillS (k : Fin 4) {hl} {hx} {hm} {w : Vec F S1x1024 .f32} (hw : w = sC m c k) {α : Type} {Q : α → sProp 𝕄}
    {kk : PUnit → Prog (TpuEff nD τ sig (Elt F) Λ₀ .tc) α} :
    freeS σ c k ⊢ iprop((halfS σ m c k -∗ run c (kk ⟨⟩) Q)
      -∗ run c (.op (.load ssM (rS k).toLoadRect hl) fun _ => .op (.store ssM (rS k) w Finset.univ hx hm) kk) Q) := by
  subst hw
  unfold freeS halfS
  iintro ⟨Ha, Ht, Ht', ⟨%X, HX⟩, HY⟩ Hk
  iapply (wp_load_slice c (M := ssM) (r := rS k) (fun _ => rfl) X) $$ HX; iintro HX
  iapply (wp_store_slice c (M := ssM) (r := rS k) (fun _ => rfl) X) $$ HX; iintro HX
  iapply Hk
  isplitl [Ha]; · iexact Ha
  isplitl [Ht]; · iexact Ht
  isplitl [Ht']; · iexact Ht'
  isplitl [HX] <;> iassumption

/-! ## Sending a chunk -/

theorem wp_sendQ (k : Fin 4) (n : Dev nD) (hn : n = σ c) (l : List (Fin 4 × Fin 4)) {hsc} {hsrc} {hdst} {hsem}
    {α : Type} {Q : α → sProp 𝕄} {kk : PUnit → Prog (TpuEff nD τ sig (Elt F) Λ₀ .tc) α} :
    iprop(records σ m K ∗ halfQ σ m c k ∗ due c (oweL σ c ((1, k) :: l)))
      ⊢ iprop((wt c 0 k ∗ due c (oweL σ c l) -∗ run c (kk ⟨⟩) Q)
        -∗ run c (.op (.enqueueDma (qsP k) (.remote (Dev.tc n : Thread nD τ) (qrP k) (.dma (dsem 0 k)) hsc) (.dma (dsem 1 k)) hsrc hdst hsem) kk) Q) := by
  subst hn
  unfold halfQ due owns
  iintro ⟨#HR, ⟨Ha, Ht, Ht', ⟨%fs, %hfs, Hs⟩, ⟨%Y, %fd, %hfd, Hd⟩⟩, ⟨%W, HO⟩⟩ Hk
  iapply (Rounds.wp_send_pointsTo 𝒱₀ ER (rd σ m) (c : Thread nD τ) none (κ₁ := K (c, cix 0 k)) (κ₂ := K (σ c, cix 1 k))
    (c' := (σ c : Thread nD τ)) (src := qsP k) (dst := qrP k) (sS := .dma (dsem 0 k)) (sem := .dma (dsem 1 k))
    (r₁ := 0) (r₂ := 0) (d₁ := ()) (d₂ := ()) (fs := fs) (fd := fd)
    (by rw [duties_dma]; exact Finset.mem_singleton_self _) (by rw [duties_dma]; exact Finset.mem_singleton_self _)
    () () NQ rfl (amount_dma σ m c 0 k ()) (amount_dma σ m (σ c) 1 k ()) (oweL σ c l) rfl (W := W)
    (by
      rw [payload_dma]; unfold dmaPay owns
      iintro H; iexists fs; isplitr; · ipureintro; exact hfs
      iexact H)
    (by
      rw [payload_dma]; unfold dmaPay owns
      iintro H; iexists ((qrP k).view.write (Elt F) fd ((qsP k).view.read (Elt F) fs) Finset.univ); isplitr
      · ipureintro; rw [View.read_write_univ, hfs, Equiv.symm_apply_apply]
      iexact H)) $$ [Hs Hd HO Ht Ht']
  · isplitr; · iapply (inv_dma σ m K c 0 k); iexact HR
    isplitr; · iapply (inv_dma σ m K (σ c) 1 k); iexact HR
    isplitl [Hs]; · iexact Hs
    isplitl [Hd]; · iexact Hd
    isplitl [HO]; · iexact HO
    isplitl [Ht]; · iexact Ht
    isplitr; · iapply (reached_dma σ m K c 0 k); iexact HR
    isplitl [Ht']; · iexact Ht'
    iapply (reached_dma σ m K (σ c) 1 k); iexact HR
  iintro ⟨Hc, HO⟩
  iapply Hk
  unfold wt
  isplitl [Ha Hc]
  · isplitl [Ha]; · iexact Ha
    iexact Hc
  iexists W; iexact HO

theorem wp_sendS (k : Fin 4) (n : Dev nD) (hn : n = σ c) (l : List (Fin 4 × Fin 4)) {hsc} {hsrc} {hdst} {hsem}
    {α : Type} {Q : α → sProp 𝕄} {kk : PUnit → Prog (TpuEff nD τ sig (Elt F) Λ₀ .tc) α} :
    iprop(records σ m K ∗ halfS σ m c k ∗ due c (oweL σ c ((3, k) :: l)))
      ⊢ iprop((wt c 2 k ∗ due c (oweL σ c l) -∗ run c (kk ⟨⟩) Q)
        -∗ run c (.op (.enqueueDma (ssP k) (.remote (Dev.tc n : Thread nD τ) (srP k) (.dma (dsem 2 k)) hsc) (.dma (dsem 3 k)) hsrc hdst hsem) kk) Q) := by
  subst hn
  unfold halfS due owns
  iintro ⟨#HR, ⟨Ha, Ht, Ht', ⟨%fs, %hfs, Hs⟩, ⟨%Y, %fd, %hfd, Hd⟩⟩, ⟨%W, HO⟩⟩ Hk
  iapply (Rounds.wp_send_pointsTo 𝒱₀ ER (rd σ m) (c : Thread nD τ) none (κ₁ := K (c, cix 2 k)) (κ₂ := K (σ c, cix 3 k))
    (c' := (σ c : Thread nD τ)) (src := ssP k) (dst := srP k) (sS := .dma (dsem 2 k)) (sem := .dma (dsem 3 k))
    (r₁ := 0) (r₂ := 0) (d₁ := ()) (d₂ := ()) (fs := fs) (fd := fd)
    (by rw [duties_dma]; exact Finset.mem_singleton_self _) (by rw [duties_dma]; exact Finset.mem_singleton_self _)
    () () NS rfl (amount_dma σ m c 2 k ()) (amount_dma σ m (σ c) 3 k ()) (oweL σ c l) rfl (W := W)
    (by
      rw [payload_dma]; unfold dmaPay owns
      iintro H; iexists fs; isplitr; · ipureintro; exact hfs
      iexact H)
    (by
      rw [payload_dma]; unfold dmaPay owns
      iintro H; iexists ((srP k).view.write (Elt F) fd ((ssP k).view.read (Elt F) fs) Finset.univ); isplitr
      · ipureintro; rw [View.read_write_univ, hfs, Equiv.symm_apply_apply]
      iexact H)) $$ [Hs Hd HO Ht Ht']
  · isplitr; · iapply (inv_dma σ m K c 2 k); iexact HR
    isplitr; · iapply (inv_dma σ m K (σ c) 3 k); iexact HR
    isplitl [Hs]; · iexact Hs
    isplitl [Hd]; · iexact Hd
    isplitl [HO]; · iexact HO
    isplitl [Ht]; · iexact Ht
    isplitr; · iapply (reached_dma σ m K c 2 k); iexact HR
    isplitl [Ht']; · iexact Ht'
    iapply (reached_dma σ m K (σ c) 3 k); iexact HR
  iintro ⟨Hc, HO⟩
  iapply Hk
  unfold wt
  isplitl [Ha Hc]
  · isplitl [Ha]; · iexact Ha
    iexact Hc
  iexists W; iexact HO

/-! ## Waiting on a transfer semaphore -/

theorem wp_wait (j k : Fin 4) {sp sp' : Space} {s s' : Shape} {e e' : EltTy} {src : Memref sig .tc sp' s' e'} {dst : Memref sig .tc sp s e}
    {hsrc} {hdst} (hN : dst.view.dmaCredit = amt j)
    {α : Type} {Q : α → sProp 𝕄} {kk : PUnit → Prog (TpuEff nD τ sig (Elt F) Λ₀ .tc) α} :
    iprop(records σ m K ∗ wt c j k ∗ due c 0)
      ⊢ iprop((got σ m c j k ∗ due c 0 -∗ run c (kk ⟨⟩) Q)
        -∗ run c (.op (.waitDma2 (dsem j k) src dst hsrc hdst) kk) Q) := by
  unfold wt got due
  iintro ⟨#HR, ⟨Ha, Hc⟩, ⟨%W, HO⟩⟩ Hk
  iapply (Rounds.wp_wait_rest_token 𝒱₀ ER (rd σ m) (c : Thread nD τ) none (κ := K (c, cix j k))
      (wpE_waitDma2_eq 𝒱₀ (c : Thread nD τ) none Set.univ) (Set.mem_univ _) () (O := 0) (W := W) (R := 0) (m := 0) (T := ∅)
      (by rw [Nat.zero_add, expect_dma, hN])) $$ [Hc HO Ha]
  · isplitr; · iapply (inv_dma σ m K c j k); iexact HR
    isplitl [Hc]; · rw [hN]; iexact Hc
    isplitl [HO]; · iexact HO
    isplitr; · rw [MayWait_zero]; iempintro
    iexact Ha
  iintro ⟨HO, Ha, -, Hpay⟩
  ihave Hp := (Entails.of_eq (rest_dma σ m c j k)) $$ Hpay
  imod (Rounds.cell_close ER (rd σ m) (Set.mem_univ (K (c, cix j k))) (fun h => h) (R := 0 + 1) (duties_later σ m (dcell c j k))) $$ [Ha] with Hz
  · isplitr; · iapply (inv_dma σ m K c j k); iexact HR
    iexact Ha
  iapply Hk
  isplitl [Hp Hz]
  · isplitl [Hp]; · iexact Hp
    iexact Hz
  iexists _; iexact HO

/-! ## The handshake -/

theorem wp_hello (n : Dev nD) (hn : n = σ.symm c) {α : Type} {Q : α → sProp 𝕄} {kk : PUnit → Prog (TpuEff nD τ sig (Elt F) Λ₀ .tc) α} :
    iprop(records σ m K ∗ dutyTok ER (barCell (σ.symm c)) 0 () ∗ (land c 0 ∗ land c 1 ∗ land c 2 ∗ land c 3) ∗ due c (O₀ σ c))
      ⊢ iprop((due c (oweL σ c sends) -∗ run c (kk ⟨⟩) Q)
        -∗ run c (.op (.semSignal (Dev.tc n : Thread nD τ) barS 1) kk) Q) := by
  subst hn
  unfold due
  iintro ⟨#HR, Ht, Hl, ⟨%W, HO⟩⟩ Hk
  iapply (Rounds.wp_signal 𝒱₀ ER (rd σ m) (c : Thread nD τ) none (dst := (σ.symm c : Thread nD τ)) (κ := K (σ.symm c, 0)) (r := 0)
      (d := ()) (by rw [duties_bar]; exact Finset.mem_singleton_self _) (amount_bar σ m (σ.symm c) ()) () (oweL σ c sends) rfl (W := W))
    $$ [HO Ht Hl]
  · isplitr; · iapply (inv_bar σ m K (σ.symm c)); iexact HR
    isplitl [HO]; · iexact HO
    isplitl [Ht]; · iexact Ht
    isplitl [Hl]; · rw [payload_bar]; unfold barPay; rw [Equiv.apply_symm_apply]; iexact Hl
    iapply (reached_bar σ m K (σ.symm c)); iexact HR
  iintro HO
  iapply Hk
  iexists W; iexact HO

theorem wp_heard {α : Type} {Q : α → sProp 𝕄} {kk : PUnit → Prog (TpuEff nD τ sig (Elt F) Λ₀ .tc) α} :
    iprop(records σ m K ∗ levAts L lv ∗ atPos ER (barCell c) 0 ∅ 0 ∗ cred (tallyAt (barCell c) () 1) ∗ due c (oweL σ c sends))
      ⊢ iprop((barPay σ c ∗ semVal (barCell c) 0 ∗ due c (oweL σ c sends) -∗ run c (kk ⟨⟩) Q)
        -∗ run c (.op (.semWait barS 1) kk) Q) := by
  unfold due
  iintro ⟨#HR, #HL, Ha, Hc, ⟨%W, HO⟩⟩ Hk
  iapply (Rounds.wp_wait_rest_token 𝒱₀ ER (rd σ m) (c : Thread nD τ) none (κ := K (c, 0))
      (wpE_semWait_eq 𝒱₀ (c : Thread nD τ) none Set.univ) (Set.mem_univ _) () (O := oweL σ c sends) (W := W) (R := 0) (m := 0) (T := ∅)
      (by rw [expect_bar])) $$ [Hc HO Ha]
  · isplitr; · iapply (inv_bar σ m K c); iexact HR
    isplitl [Hc]; · iexact Hc
    isplitl [HO]; · iexact HO
    isplitr; · iapply (mayWait_bar σ c); iexact HL
    iexact Ha
  iintro ⟨HO, Ha, -, Hpay⟩
  ihave Hp := (Entails.of_eq (rest_bar σ m c)) $$ Hpay
  imod (Rounds.cell_close ER (rd σ m) (Set.mem_univ (K (c, 0))) (fun h => h) (R := 0 + 1) (duties_later σ m (barCell c))) $$ [Ha] with Hz
  · isplitr; · iapply (inv_bar σ m K c); iexact HR
    iexact Ha
  iapply Hk
  isplitl [Hp]; · iexact Hp
  isplitl [Hz]; · iexact Hz
  iexists _; iexact HO

/-! ## The devices the kernel computes -/

theorem dev1_all : ∀ c a0 a1 a2 a3 : Fin 4,
    k0_dev1 c (Dev.word (nD := 4) a0) (Dev.word (nD := 4) a1) (Dev.word (nD := 4) a2) (Dev.word (nD := 4) a3)
      = if a3 = c then 3 else if a2 = c then 2 else if a1 = c then 1 else 0 := by
  decide +kernel
theorem dev1_eq (h) : (⟨k0_dev1 c (Dev.word (σ 0)) (Dev.word (σ 1)) (Dev.word (σ 2)) (Dev.word (σ 3)), h⟩ : Dev nD) = σ.symm c := by
  apply Fin.ext
  show k0_dev1 c (Dev.word (σ 0)) (Dev.word (σ 1)) (Dev.word (σ 2)) (Dev.word (σ 3)) = (σ.symm c).val
  obtain ⟨d, rfl⟩ : ∃ d, c = σ d := ⟨σ.symm c, (σ.apply_symm_apply c).symm⟩
  rw [dev1_all, Equiv.symm_apply_apply]
  simp only [σ.injective.eq_iff]
  clear h; revert d; decide
theorem chk2_ok : ∀ d : Dev nD, k0_chk2 (Dev.word d) := by decide
theorem dev2_eq : ∀ d : Dev nD, ∀ h, (⟨k0_dev2 (Dev.word d), h⟩ : Dev nD) = d := by decide
theorem dev3_eq : ∀ d : Dev nD, ∀ h, (⟨k0_dev3 (Dev.word d), h⟩ : Dev nD) = d := by decide
theorem dev4_eq : ∀ d : Dev nD, ∀ h, (⟨k0_dev4 (Dev.word d), h⟩ : Dev nD) = d := by decide
theorem dev5_eq : ∀ d : Dev nD, ∀ h, (⟨k0_dev5 (Dev.word d), h⟩ : Dev nD) = d := by decide
theorem dev6_eq : ∀ d : Dev nD, ∀ h, (⟨k0_dev6 (Dev.word d), h⟩ : Dev nD) = d := by decide
theorem dev7_eq : ∀ d : Dev nD, ∀ h, (⟨k0_dev7 (Dev.word d), h⟩ : Dev nD) = d := by decide
theorem dev8_eq : ∀ d : Dev nD, ∀ h, (⟨k0_dev8 (Dev.word d), h⟩ : Dev nD) = d := by decide
theorem dev9_eq : ∀ d : Dev nD, ∀ h, (⟨k0_dev9 (Dev.word d), h⟩ : Dev nD) = d := by decide

end Cert.KernelIdeal.Wire

end
-- ==== Proof.IdealBody.lean ====
/-
# The kernel's body on one device, part by part
-/
module

public import proofs.«01_k».proof.Proof.IdealSteps
public import proofs.«01_k».proof.Proof.Gen.KernelIdeal.Points
public import proofs.«01_k».proof.Proof.Gen.KernelIdeal.Frame

@[expose] public section

noncomputable section

namespace Cert.KernelIdeal.Wire

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (σ : Dev nD ≃ Dev nD) (m : (ℓ : Loc nD τ sig) → Buf (Elt F) ℓ) (K : Dev nD × Fin 17 → ℕ) (c : Dev nD)

/-- The staged block and the staged table, as the body holds them. -/
abbrev xPts : sProp 𝕄 := iprop((((c : Thread nD τ).loc cc0_stg0_0) ↦{fullShare} (xstg m c)))
abbrev pPts : sProp 𝕄 := iprop((((c : Thread nD τ).loc cc0_stg1_0) ↦{fullShare} (pstg m c)))

/-- A word of the staged table. -/
theorem word_at (hpre : PreOK σ m) (off : Fin 1 → ℕ) (h : ∀ a, off a + S1.size a ≤ S4.size a) (x : (Rect.unit (s := S4) off S1.size h).shape.Idx)
    (i : Fin 4) (hi : off 0 = i.val) : (pM.access (Rect.unit (s := S4) off S1.size h)).read (Elt F) (pstg m c) x = Dev.word (σ i) := by
  have hw := hpre c ((Rect.unit (s := S4) off S1.size h).emb x)
  have e : ((Rect.unit (s := S4) off S1.size h).emb x) 0 = i := by
    apply Fin.ext
    have hx : (x 0).val < 1 := (x 0).isLt
    show off 0 + 1 * (x 0).val = i.val
    omega
  rw [e] at hw
  exact hw

/-- The load of a chunk of `x`. -/
theorem wp_loadX (k : Fin 4) {hl} {α : Type} {Q : α → sProp 𝕄} {kk : Vec F S1x256x1024 .f32 → Prog (TpuEff nD τ sig (Elt F) Λ₀ .tc) α} :
    (xPts m c : sProp 𝕄) ⊢ iprop((xPts m c -∗ run c (kk (xc m c k)) Q) -∗ run c (.op (.load xM (rX k).toLoadRect hl) kk) Q) :=
  wp_load 𝒱₀ (c : Thread nD τ) none Set.univ (m := xM) (S := Finset.univ) (q := fullShare) (f := xstg m c) (Finset.subset_univ _)

set_option maxHeartbeats 1000000 in
/-- Reading the table, the handshake, and the first chunk's load. -/
theorem part1_ok (hpre : PreOK σ m) {Kt : _ → sProp 𝕄} :
    iprop((records σ m K ∗ levAts L lv ∗ atPos ER (barCell c) 0 ∅ 0 ∗ cred (tallyAt (barCell c) () 1)
          ∗ dutyTok ER (barCell (σ.symm c)) 0 () ∗ (land c 0 ∗ land c 1 ∗ land c 2 ∗ land c 3) ∗ due c (O₀ σ c) ∗ xPts m c ∗ pPts m c)
        ∗ (barPay σ c ∗ semVal (barCell c) 0 ∗ due c (oweL σ c sends) ∗ xPts m c ∗ pPts m c
          -∗ Kt ⟨Dev.word (σ c), chk2_ok (σ c), k0_pay1 (xc m c 0), k0_pay2 (xc m c 0), k0_pay3 (xc m c 0)⟩))
      ⊢ run c (k0_part1 xM (Memref.isWhole_whole _) pM (Memref.isWhole_whole _) oM (Memref.isWhole_whole _) qsM (Memref.isWhole_whole _)
          ssM (Memref.isWhole_whole _) qrM (Memref.isWhole_whole _) srM (Memref.isWhole_whole _) cc0_scratch4 cc0_scratch5 cc0_scratch6 cc0_scratch7) Kt := by
  rw [k0_part1_eq_skeleton]; unfold k0_part1_skel run
  simp only [semSignalWord, semWaitWord, smemLoad, smemLoadElt, Prog.lift, Prog.bind_op, Prog.bind_ret, Prog.pure_eq_ret, Prog.bind_assoc, wp_deviceId]
  iintro ⟨⟨#HR, #HL, Ha, Hc, Ht, Hland, HO, Hx, Hp⟩, Hk⟩
  iapply (wp_load_rect 𝒱₀ (c : Thread nD τ) none Set.univ (m := pM) (r := Rect.unit (s := S4) (k0_off1 c) S1.size (k0_off1_inb c))
    (S := Finset.univ) (q := fullShare) (f := pstg m c) (Finset.subset_univ _)) $$ Hp; iintro Hp
  rw [word_at σ m c hpre (k0_off1 c) (k0_off1_inb c) _ c (by rw [k0_off1_eq]; rfl)]
  simp only [wp_assume_of _ _ _ _ (d := k0_chk2.dec _) (chk2_ok (σ c))]
  iapply (wp_load_rect 𝒱₀ (c : Thread nD τ) none Set.univ (m := pM) (r := Rect.unit (s := S4) ![0] S1.size inb_S4_S1_0)
    (S := Finset.univ) (q := fullShare) (f := pstg m c) (Finset.subset_univ _)) $$ Hp; iintro Hp
  rw [word_at σ m c hpre ![0] inb_S4_S1_0 _ 0 rfl]
  iapply (wp_load_rect 𝒱₀ (c : Thread nD τ) none Set.univ (m := pM) (r := Rect.unit (s := S4) ![1] S1.size inb_S4_S1_1)
    (S := Finset.univ) (q := fullShare) (f := pstg m c) (Finset.subset_univ _)) $$ Hp; iintro Hp
  rw [word_at σ m c hpre ![1] inb_S4_S1_1 _ 1 rfl]
  iapply (wp_load_rect 𝒱₀ (c : Thread nD τ) none Set.univ (m := pM) (r := Rect.unit (s := S4) ![2] S1.size inb_S4_S1_2)
    (S := Finset.univ) (q := fullShare) (f := pstg m c) (Finset.subset_univ _)) $$ Hp; iintro Hp
  rw [word_at σ m c hpre ![2] inb_S4_S1_2 _ 2 rfl]
  iapply (wp_load_rect 𝒱₀ (c : Thread nD τ) none Set.univ (m := pM) (r := Rect.unit (s := S4) ![3] S1.size inb_S4_S1_3)
    (S := Finset.univ) (q := fullShare) (f := pstg m c) (Finset.subset_univ _)) $$ Hp; iintro Hp
  rw [word_at σ m c hpre ![3] inb_S4_S1_3 _ 3 rfl]
  simp only [wp_assume_of _ _ _ _ (d := k0_chk1.dec _ _ _ _ _) (k0_chk1_all c _ _ _ _)]
  iapply (wp_hello σ m K c _ (dev1_eq σ c _)) $$ [Ht Hland HO]
  · isplitr; · iexact HR
    isplitl [Ht]; · iexact Ht
    isplitl [Hland]; · iexact Hland
    iexact HO
  iintro HO
  iapply (wp_heard σ m K c) $$ [Ha Hc HO]
  · isplitr; · iexact HR
    isplitr; · iexact HL
    isplitl [Ha]; · iexact Ha
    isplitl [Hc]; · iexact Hc
    iexact HO
  iintro ⟨Hb, Hz, HO⟩
  iapply (wp_loadX m c 0) $$ Hx; iintro Hx
  unfold run; rw [wp_ret]; imodintro
  iapply Hk
  isplitl [Hb]; · iexact Hb
  isplitl [Hz]; · iexact Hz
  isplitl [HO]; · iexact HO
  isplitl [Hx]; · iexact Hx
  iexact Hp

/-! ## The remaining parts -/

/-- Chunk `k` of the result buffer, holding anything; holding the result. -/
def anyO (k : Fin 4) : sProp 𝕄 := iprop(∃ X, owns (c : Thread nD τ) (oP k) fullShare X)
def outO (k : Fin 4) : sProp 𝕄 := owns (c : Thread nD τ) (oP k) fullShare (oC m (σ.symm c) k)

theorem wp_loadQ (k : Fin 4) {hl} {α : Type} {Q : α → sProp 𝕄} {kk : Vec F S256x1024 .i8 → Prog (TpuEff nD τ sig (Elt F) Λ₀ .tc) α} :
    got σ m c 1 k ⊢ iprop((got σ m c 1 k -∗ run c (kk (qC m (σ.symm c) k)) Q) -∗ run c (.op (.load qrM (rQ k).toLoadRect hl) kk) Q) := by
  unfold got dmaPay
  iintro ⟨H, Hz⟩ Hk
  iapply (wp_load_slice c (M := qrM) (r := rQ k) (fun _ => rfl) (qC m (σ.symm c) k)) $$ H; iintro H
  iapply Hk
  isplitl [H] <;> iassumption

theorem wp_loadS (k : Fin 4) {hl} {α : Type} {Q : α → sProp 𝕄} {kk : Vec F S1x1024 .f32 → Prog (TpuEff nD τ sig (Elt F) Λ₀ .tc) α} :
    got σ m c 3 k ⊢ iprop((got σ m c 3 k -∗ run c (kk (sC m (σ.symm c) k)) Q) -∗ run c (.op (.load srM (rS k).toLoadRect hl) kk) Q) := by
  unfold got dmaPay
  iintro ⟨H, Hz⟩ Hk
  iapply (wp_load_slice c (M := srM) (r := rS k) (fun _ => rfl) (sC m (σ.symm c) k)) $$ H; iintro H
  iapply Hk
  isplitl [H] <;> iassumption

theorem wp_fillO (k : Fin 4) {hl} {hx} {hm} {w : Vec F S1x256x1024 .bf16} (hw : w = oC m (σ.symm c) k) {α : Type} {Q : α → sProp 𝕄}
    {kk : PUnit → Prog (TpuEff nD τ sig (Elt F) Λ₀ .tc) α} :
    anyO c k ⊢ iprop((outO σ m c k -∗ run c (kk ⟨⟩) Q)
      -∗ run c (.op (.load oM (rX k).toLoadRect hl) fun _ => .op (.store oM (rX k) w Finset.univ hx hm) kk) Q) := by
  subst hw
  unfold anyO outO
  iintro ⟨%X, HX⟩ Hk
  iapply (wp_load_slice c (M := oM) (r := rX k) (fun _ => rfl) X) $$ HX; iintro HX
  iapply (wp_store_slice c (M := oM) (r := rX k) (fun _ => rfl) X) $$ HX; iintro HX
  iapply Hk
  iexact HX

set_option maxHeartbeats 2000000 in
/-- Chunk 0 quantised and sent; chunk 1 loaded. -/
theorem part2_ok {Kt : _ → sProp 𝕄} :
    iprop((records σ m K ∗ freeQ σ c 0 ∗ freeS σ c 0 ∗ due c (oweL σ c [(1, 0), (3, 0), (1, 1), (3, 1), (1, 2), (3, 2), (1, 3), (3, 3)]) ∗ xPts m c)
        ∗ (due c (oweL σ c [(1, 1), (3, 1), (1, 2), (3, 2), (1, 3), (3, 3)]) ∗ wt c 0 0 ∗ wt c 2 0 ∗ xPts m c -∗ Kt ⟨k0_pay6 (xc m c 1), k0_pay7 (xc m c 1)⟩))
      ⊢ run c (k0_part2 xM (Memref.isWhole_whole _) pM (Memref.isWhole_whole _) oM (Memref.isWhole_whole _) qsM (Memref.isWhole_whole _)
          ssM (Memref.isWhole_whole _) qrM (Memref.isWhole_whole _) srM (Memref.isWhole_whole _) cc0_scratch4 cc0_scratch5 cc0_scratch6 cc0_scratch7 (Dev.word (σ c)) (chk2_ok (σ c)) (k0_pay1 (xc m c 0)) (k0_pay2 (xc m c 0)) (k0_pay3 (xc m c 0))) Kt := by
  rw [k0_part2_eq_skeleton]; unfold k0_part2_skel run
  simp only [Prog.lift, Prog.bind_op, Prog.bind_ret, Prog.pure_eq_ret, Prog.bind_assoc]
  iintro ⟨⟨#HR, HfreeQ0, HfreeS0, HO, Hx⟩, Hk⟩
  iapply (wp_fillQ σ m c 0 rfl) $$ HfreeQ0; iintro HhalfQ0
  iapply (wp_fillS σ m c 0 rfl) $$ HfreeS0; iintro HhalfS0
  iapply (wp_sendQ σ m K c 0 _ (dev2_eq (σ c) _) [(3, 0), (1, 1), (3, 1), (1, 2), (3, 2), (1, 3), (3, 3)]) $$ [HhalfQ0 HO]
  · isplitr; · iexact HR
    isplitl [HhalfQ0] <;> iassumption
  iintro ⟨Hwt00, HO⟩
  iapply (wp_sendS σ m K c 0 _ (dev3_eq (σ c) _) [(1, 1), (3, 1), (1, 2), (3, 2), (1, 3), (3, 3)]) $$ [HhalfS0 HO]
  · isplitr; · iexact HR
    isplitl [HhalfS0] <;> iassumption
  iintro ⟨Hwt20, HO⟩
  iapply (wp_loadX m c 1) $$ Hx; iintro Hx
  unfold run; rw [wp_ret]; imodintro
  iapply Hk
  isplitl [HO]; · iexact HO
  isplitl [Hwt00]; · iexact Hwt00
  isplitl [Hwt20]; · iexact Hwt20
  iexact Hx

set_option maxHeartbeats 2000000 in
/-- Chunk 1 quantised, its integers sent. -/
theorem part3_ok {Kt : _ → sProp 𝕄} :
    iprop((records σ m K ∗ freeQ σ c 1 ∗ freeS σ c 1 ∗ due c (oweL σ c [(1, 1), (3, 1), (1, 2), (3, 2), (1, 3), (3, 3)]))
        ∗ (halfS σ m c 1 ∗ due c (oweL σ c [(3, 1), (1, 2), (3, 2), (1, 3), (3, 3)]) ∗ wt c 0 1 -∗ Kt ⟨⟩))
      ⊢ run c (k0_part3 xM (Memref.isWhole_whole _) pM (Memref.isWhole_whole _) oM (Memref.isWhole_whole _) qsM (Memref.isWhole_whole _)
          ssM (Memref.isWhole_whole _) qrM (Memref.isWhole_whole _) srM (Memref.isWhole_whole _) cc0_scratch4 cc0_scratch5 cc0_scratch6 cc0_scratch7 (Dev.word (σ c)) (chk2_ok (σ c)) (k0_pay6 (xc m c 1)) (k0_pay7 (xc m c 1))) Kt := by
  rw [k0_part3_eq_skeleton]; unfold k0_part3_skel run
  simp only [Prog.lift, Prog.bind_op, Prog.bind_ret, Prog.pure_eq_ret, Prog.bind_assoc]
  iintro ⟨⟨#HR, HfreeQ1, HfreeS1, HO⟩, Hk⟩
  iapply (wp_fillQ σ m c 1 rfl) $$ HfreeQ1; iintro HhalfQ1
  iapply (wp_fillS σ m c 1 rfl) $$ HfreeS1; iintro HhalfS1
  iapply (wp_sendQ σ m K c 1 _ (dev4_eq (σ c) _) [(3, 1), (1, 2), (3, 2), (1, 3), (3, 3)]) $$ [HhalfQ1 HO]
  · isplitr; · iexact HR
    isplitl [HhalfQ1] <;> iassumption
  iintro ⟨Hwt01, HO⟩
  unfold run; rw [wp_ret]; imodintro
  iapply Hk
  isplitl [HhalfS1]; · iexact HhalfS1
  isplitl [HO]; · iexact HO
  iexact Hwt01

set_option maxHeartbeats 2000000 in
/-- Chunk 1's scales sent; chunk 2 quantised, its integers sent. -/
theorem part4_ok {Kt : _ → sProp 𝕄} :
    iprop((records σ m K ∗ due c (oweL σ c [(3, 1), (1, 2), (3, 2), (1, 3), (3, 3)]) ∗ halfS σ m c 1 ∗ xPts m c ∗ freeQ σ c 2 ∗ freeS σ c 2)
        ∗ (due c (oweL σ c [(3, 2), (1, 3), (3, 3)]) ∗ wt c 2 1 ∗ xPts m c ∗ halfS σ m c 2 ∗ wt c 0 2 -∗ Kt 1#32))
      ⊢ run c (k0_part4 xM (Memref.isWhole_whole _) pM (Memref.isWhole_whole _) oM (Memref.isWhole_whole _) qsM (Memref.isWhole_whole _)
          ssM (Memref.isWhole_whole _) qrM (Memref.isWhole_whole _) srM (Memref.isWhole_whole _) cc0_scratch4 cc0_scratch5 cc0_scratch6 cc0_scratch7 (Dev.word (σ c)) (chk2_ok (σ c))) Kt := by
  rw [k0_part4_eq_skeleton]; unfold k0_part4_skel run
  simp only [Prog.lift, Prog.bind_op, Prog.bind_ret, Prog.pure_eq_ret, Prog.bind_assoc]
  iintro ⟨⟨#HR, HO, HhalfS1, Hx, HfreeQ2, HfreeS2⟩, Hk⟩
  iapply (wp_sendS σ m K c 1 _ (dev5_eq (σ c) _) [(1, 2), (3, 2), (1, 3), (3, 3)]) $$ [HhalfS1 HO]
  · isplitr; · iexact HR
    isplitl [HhalfS1] <;> iassumption
  iintro ⟨Hwt21, HO⟩
  iapply (wp_loadX m c 2) $$ Hx; iintro Hx
  iapply (wp_fillQ σ m c 2 rfl) $$ HfreeQ2; iintro HhalfQ2
  iapply (wp_fillS σ m c 2 rfl) $$ HfreeS2; iintro HhalfS2
  iapply (wp_sendQ σ m K c 2 _ (dev6_eq (σ c) _) [(3, 2), (1, 3), (3, 3)]) $$ [HhalfQ2 HO]
  · isplitr; · iexact HR
    isplitl [HhalfQ2] <;> iassumption
  iintro ⟨Hwt02, HO⟩
  unfold run; rw [wp_ret]; imodintro
  iapply Hk
  isplitl [HO]; · iexact HO
  isplitl [Hwt21]; · iexact Hwt21
  isplitl [Hx]; · iexact Hx
  isplitl [HhalfS2]; · iexact HhalfS2
  iexact Hwt02

set_option maxHeartbeats 2000000 in
/-- Chunk 2's scales sent; chunk 3 quantised. -/
theorem part5_ok (w : BitVec 32) {Kt : _ → sProp 𝕄} :
    iprop((records σ m K ∗ due c (oweL σ c [(3, 2), (1, 3), (3, 3)]) ∗ halfS σ m c 2 ∗ xPts m c ∗ freeQ σ c 3 ∗ freeS σ c 3)
        ∗ (due c (oweL σ c [(1, 3), (3, 3)]) ∗ wt c 2 2 ∗ xPts m c ∗ halfQ σ m c 3 ∗ halfS σ m c 3 -∗ Kt ⟨⟩))
      ⊢ run c (k0_part5 xM (Memref.isWhole_whole _) pM (Memref.isWhole_whole _) oM (Memref.isWhole_whole _) qsM (Memref.isWhole_whole _)
          ssM (Memref.isWhole_whole _) qrM (Memref.isWhole_whole _) srM (Memref.isWhole_whole _) cc0_scratch4 cc0_scratch5 cc0_scratch6 cc0_scratch7 (Dev.word (σ c)) (chk2_ok (σ c)) w) Kt := by
  rw [k0_part5_eq_skeleton]; unfold k0_part5_skel run
  simp only [Prog.lift, Prog.bind_op, Prog.bind_ret, Prog.pure_eq_ret, Prog.bind_assoc]
  iintro ⟨⟨#HR, HO, HhalfS2, Hx, HfreeQ3, HfreeS3⟩, Hk⟩
  iapply (wp_sendS σ m K c 2 _ (dev7_eq (σ c) _) [(1, 3), (3, 3)]) $$ [HhalfS2 HO]
  · isplitr; · iexact HR
    isplitl [HhalfS2] <;> iassumption
  iintro ⟨Hwt22, HO⟩
  iapply (wp_loadX m c 3) $$ Hx; iintro Hx
  iapply (wp_fillQ σ m c 3 rfl) $$ HfreeQ3; iintro HhalfQ3
  iapply (wp_fillS σ m c 3 rfl) $$ HfreeS3; iintro HhalfS3
  unfold run; rw [wp_ret]; imodintro
  iapply Hk
  isplitl [HO]; · iexact HO
  isplitl [Hwt22]; · iexact Hwt22
  isplitl [Hx]; · iexact Hx
  isplitl [HhalfQ3]; · iexact HhalfQ3
  iexact HhalfS3

set_option maxHeartbeats 2000000 in
/-- Chunk 3 sent; chunk 0 received, its integers loaded. -/
theorem part6_ok {Kt : _ → sProp 𝕄} :
    iprop((records σ m K ∗ due c (oweL σ c [(1, 3), (3, 3)]) ∗ halfQ σ m c 3 ∗ halfS σ m c 3 ∗ wt c 1 0 ∗ wt c 3 0)
        ∗ (due c 0 ∗ wt c 0 3 ∗ wt c 2 3 ∗ got σ m c 1 0 ∗ got σ m c 3 0 -∗ Kt (k0_pay19 (qC m (σ.symm c) 0))))
      ⊢ run c (k0_part6 xM (Memref.isWhole_whole _) pM (Memref.isWhole_whole _) oM (Memref.isWhole_whole _) qsM (Memref.isWhole_whole _)
          ssM (Memref.isWhole_whole _) qrM (Memref.isWhole_whole _) srM (Memref.isWhole_whole _) cc0_scratch4 cc0_scratch5 cc0_scratch6 cc0_scratch7 (Dev.word (σ c)) (chk2_ok (σ c))) Kt := by
  rw [k0_part6_eq_skeleton]; unfold k0_part6_skel run
  simp only [Prog.lift, Prog.bind_op, Prog.bind_ret, Prog.pure_eq_ret, Prog.bind_assoc]
  iintro ⟨⟨#HR, HO, HhalfQ3, HhalfS3, Hwt10, Hwt30⟩, Hk⟩
  iapply (wp_sendQ σ m K c 3 _ (dev8_eq (σ c) _) [(3, 3)]) $$ [HhalfQ3 HO]
  · isplitr; · iexact HR
    isplitl [HhalfQ3] <;> iassumption
  iintro ⟨Hwt03, HO⟩
  iapply (wp_sendS σ m K c 3 _ (dev9_eq (σ c) _) []) $$ [HhalfS3 HO]
  · isplitr; · iexact HR
    isplitl [HhalfS3] <;> iassumption
  iintro ⟨Hwt23, HO⟩
  iapply (wp_wait σ m K c 1 0 (src := qsP 0) (dst := qrP 0) rfl) $$ [Hwt10 HO]
  · isplitr; · iexact HR
    isplitl [Hwt10]; · iexact Hwt10
    iexact HO
  iintro ⟨Hgot10, HO⟩
  iapply (wp_wait σ m K c 3 0 (src := ssP 0) (dst := srP 0) rfl) $$ [Hwt30 HO]
  · isplitr; · iexact HR
    isplitl [Hwt30]; · iexact Hwt30
    iexact HO
  iintro ⟨Hgot30, HO⟩
  iapply (wp_loadQ σ m c 0) $$ Hgot10; iintro Hgot10
  unfold run; rw [wp_ret]; imodintro
  iapply Hk
  isplitl [HO]; · iexact HO
  isplitl [Hwt03]; · iexact Hwt03
  isplitl [Hwt23]; · iexact Hwt23
  isplitl [Hgot10]; · iexact Hgot10
  iexact Hgot30

set_option maxHeartbeats 2000000 in
/-- Chunk 0 multiplied out; chunk 1 received and multiplied out. -/
theorem part7_ok {Kt : _ → sProp 𝕄} :
    iprop((records σ m K ∗ got σ m c 3 0 ∗ anyO c 0 ∗ wt c 1 1 ∗ due c 0 ∗ wt c 3 1 ∗ anyO c 1)
        ∗ (got σ m c 3 0 ∗ outO σ m c 0 ∗ due c 0 ∗ got σ m c 1 1 ∗ got σ m c 3 1 ∗ outO σ m c 1 -∗ Kt ⟨⟩))
      ⊢ run c (k0_part7 xM (Memref.isWhole_whole _) pM (Memref.isWhole_whole _) oM (Memref.isWhole_whole _) qsM (Memref.isWhole_whole _)
          ssM (Memref.isWhole_whole _) qrM (Memref.isWhole_whole _) srM (Memref.isWhole_whole _) cc0_scratch4 cc0_scratch5 cc0_scratch6 cc0_scratch7 (Dev.word (σ c)) (k0_pay19 (qC m (σ.symm c) 0))) Kt := by
  rw [k0_part7_eq_skeleton]; unfold k0_part7_skel run
  simp only [Prog.lift, Prog.bind_op, Prog.bind_ret, Prog.pure_eq_ret, Prog.bind_assoc]
  iintro ⟨⟨#HR, Hgot30, HanyO0, Hwt11, HO, Hwt31, HanyO1⟩, Hk⟩
  iapply (wp_loadS σ m c 0) $$ Hgot30; iintro Hgot30
  iapply (wp_fillO σ m c 0 rfl) $$ HanyO0; iintro HoutO0
  iapply (wp_wait σ m K c 1 1 (src := qsP 1) (dst := qrP 1) rfl) $$ [Hwt11 HO]
  · isplitr; · iexact HR
    isplitl [Hwt11]; · iexact Hwt11
    iexact HO
  iintro ⟨Hgot11, HO⟩
  iapply (wp_wait σ m K c 3 1 (src := ssP 1) (dst := srP 1) rfl) $$ [Hwt31 HO]
  · isplitr; · iexact HR
    isplitl [Hwt31]; · iexact Hwt31
    iexact HO
  iintro ⟨Hgot31, HO⟩
  iapply (wp_loadQ σ m c 1) $$ Hgot11; iintro Hgot11
  iapply (wp_loadS σ m c 1) $$ Hgot31; iintro Hgot31
  iapply (wp_fillO σ m c 1 rfl) $$ HanyO1; iintro HoutO1
  unfold run; rw [wp_ret]; imodintro
  iapply Hk
  isplitl [Hgot30]; · iexact Hgot30
  isplitl [HoutO0]; · iexact HoutO0
  isplitl [HO]; · iexact HO
  isplitl [Hgot11]; · iexact Hgot11
  isplitl [Hgot31]; · iexact Hgot31
  iexact HoutO1

set_option maxHeartbeats 2000000 in
/-- Chunk 2 received and multiplied out. -/
theorem part8_ok {Kt : _ → sProp 𝕄} :
    iprop((records σ m K ∗ wt c 1 2 ∗ due c 0 ∗ wt c 3 2 ∗ anyO c 2)
        ∗ (due c 0 ∗ got σ m c 1 2 ∗ got σ m c 3 2 ∗ outO σ m c 2 -∗ Kt ⟨⟩))
      ⊢ run c (k0_part8 xM (Memref.isWhole_whole _) pM (Memref.isWhole_whole _) oM (Memref.isWhole_whole _) qsM (Memref.isWhole_whole _)
          ssM (Memref.isWhole_whole _) qrM (Memref.isWhole_whole _) srM (Memref.isWhole_whole _) cc0_scratch4 cc0_scratch5 cc0_scratch6 cc0_scratch7 (Dev.word (σ c))) Kt := by
  rw [k0_part8_eq_skeleton]; unfold k0_part8_skel run
  simp only [Prog.lift, Prog.bind_op, Prog.bind_ret, Prog.pure_eq_ret, Prog.bind_assoc]
  iintro ⟨⟨#HR, Hwt12, HO, Hwt32, HanyO2⟩, Hk⟩
  iapply (wp_wait σ m K c 1 2 (src := qsP 2) (dst := qrP 2) rfl) $$ [Hwt12 HO]
  · isplitr; · iexact HR
    isplitl [Hwt12]; · iexact Hwt12
    iexact HO
  iintro ⟨Hgot12, HO⟩
  iapply (wp_wait σ m K c 3 2 (src := ssP 2) (dst := srP 2) rfl) $$ [Hwt32 HO]
  · isplitr; · iexact HR
    isplitl [Hwt32]; · iexact Hwt32
    iexact HO
  iintro ⟨Hgot32, HO⟩
  iapply (wp_loadQ σ m c 2) $$ Hgot12; iintro Hgot12
  iapply (wp_loadS σ m c 2) $$ Hgot32; iintro Hgot32
  iapply (wp_fillO σ m c 2 rfl) $$ HanyO2; iintro HoutO2
  unfold run; rw [wp_ret]; imodintro
  iapply Hk
  isplitl [HO]; · iexact HO
  isplitl [Hgot12]; · iexact Hgot12
  isplitl [Hgot32]; · iexact Hgot32
  iexact HoutO2

set_option maxHeartbeats 2000000 in
/-- Chunk 3 received and multiplied out; chunk 0's sends finished. -/
theorem part9_ok {Kt : _ → sProp 𝕄} :
    iprop((records σ m K ∗ wt c 1 3 ∗ due c 0 ∗ wt c 3 3 ∗ anyO c 3 ∗ wt c 0 0 ∗ wt c 2 0)
        ∗ (due c 0 ∗ got σ m c 1 3 ∗ got σ m c 3 3 ∗ outO σ m c 3 ∗ got σ m c 0 0 ∗ got σ m c 2 0 -∗ Kt ⟨⟩))
      ⊢ run c (k0_part9 xM (Memref.isWhole_whole _) pM (Memref.isWhole_whole _) oM (Memref.isWhole_whole _) qsM (Memref.isWhole_whole _)
          ssM (Memref.isWhole_whole _) qrM (Memref.isWhole_whole _) srM (Memref.isWhole_whole _) cc0_scratch4 cc0_scratch5 cc0_scratch6 cc0_scratch7 (Dev.word (σ c))) Kt := by
  rw [k0_part9_eq_skeleton]; unfold k0_part9_skel run
  simp only [Prog.lift, Prog.bind_op, Prog.bind_ret, Prog.pure_eq_ret, Prog.bind_assoc]
  iintro ⟨⟨#HR, Hwt13, HO, Hwt33, HanyO3, Hwt00, Hwt20⟩, Hk⟩
  iapply (wp_wait σ m K c 1 3 (src := qsP 3) (dst := qrP 3) rfl) $$ [Hwt13 HO]
  · isplitr; · iexact HR
    isplitl [Hwt13]; · iexact Hwt13
    iexact HO
  iintro ⟨Hgot13, HO⟩
  iapply (wp_wait σ m K c 3 3 (src := ssP 3) (dst := srP 3) rfl) $$ [Hwt33 HO]
  · isplitr; · iexact HR
    isplitl [Hwt33]; · iexact Hwt33
    iexact HO
  iintro ⟨Hgot33, HO⟩
  iapply (wp_loadQ σ m c 3) $$ Hgot13; iintro Hgot13
  iapply (wp_loadS σ m c 3) $$ Hgot33; iintro Hgot33
  iapply (wp_fillO σ m c 3 rfl) $$ HanyO3; iintro HoutO3
  iapply (wp_wait σ m K c 0 0 (src := qrP 0) (dst := qsP 0) rfl) $$ [Hwt00 HO]
  · isplitr; · iexact HR
    isplitl [Hwt00]; · iexact Hwt00
    iexact HO
  iintro ⟨Hgot00, HO⟩
  iapply (wp_wait σ m K c 2 0 (src := srP 0) (dst := ssP 0) rfl) $$ [Hwt20 HO]
  · isplitr; · iexact HR
    isplitl [Hwt20]; · iexact Hwt20
    iexact HO
  iintro ⟨Hgot20, HO⟩
  unfold run; rw [wp_ret]; imodintro
  iapply Hk
  isplitl [HO]; · iexact HO
  isplitl [Hgot13]; · iexact Hgot13
  isplitl [Hgot33]; · iexact Hgot33
  isplitl [HoutO3]; · iexact HoutO3
  isplitl [Hgot00]; · iexact Hgot00
  iexact Hgot20

set_option maxHeartbeats 2000000 in
/-- The sends of chunks 1 and 2, and of chunk 3's integers, finished. -/
theorem part10_ok {Kt : _ → sProp 𝕄} :
    iprop((records σ m K ∗ wt c 0 1 ∗ due c 0 ∗ wt c 2 1 ∗ wt c 0 2 ∗ wt c 2 2 ∗ wt c 0 3)
        ∗ (due c 0 ∗ got σ m c 0 1 ∗ got σ m c 2 1 ∗ got σ m c 0 2 ∗ got σ m c 2 2 ∗ got σ m c 0 3 -∗ Kt ⟨⟩))
      ⊢ run c (k0_part10 xM (Memref.isWhole_whole _) pM (Memref.isWhole_whole _) oM (Memref.isWhole_whole _) qsM (Memref.isWhole_whole _)
          ssM (Memref.isWhole_whole _) qrM (Memref.isWhole_whole _) srM (Memref.isWhole_whole _) cc0_scratch4 cc0_scratch5 cc0_scratch6 cc0_scratch7) Kt := by
  rw [k0_part10_eq_skeleton]; unfold k0_part10_skel run
  simp only [Prog.lift, Prog.bind_op, Prog.bind_ret, Prog.pure_eq_ret, Prog.bind_assoc]
  iintro ⟨⟨#HR, Hwt01, HO, Hwt21, Hwt02, Hwt22, Hwt03⟩, Hk⟩
  iapply (wp_wait σ m K c 0 1 (src := qrP 1) (dst := qsP 1) rfl) $$ [Hwt01 HO]
  · isplitr; · iexact HR
    isplitl [Hwt01]; · iexact Hwt01
    iexact HO
  iintro ⟨Hgot01, HO⟩
  iapply (wp_wait σ m K c 2 1 (src := srP 1) (dst := ssP 1) rfl) $$ [Hwt21 HO]
  · isplitr; · iexact HR
    isplitl [Hwt21]; · iexact Hwt21
    iexact HO
  iintro ⟨Hgot21, HO⟩
  iapply (wp_wait σ m K c 0 2 (src := qrP 2) (dst := qsP 2) rfl) $$ [Hwt02 HO]
  · isplitr; · iexact HR
    isplitl [Hwt02]; · iexact Hwt02
    iexact HO
  iintro ⟨Hgot02, HO⟩
  iapply (wp_wait σ m K c 2 2 (src := srP 2) (dst := ssP 2) rfl) $$ [Hwt22 HO]
  · isplitr; · iexact HR
    isplitl [Hwt22]; · iexact Hwt22
    iexact HO
  iintro ⟨Hgot22, HO⟩
  iapply (wp_wait σ m K c 0 3 (src := qrP 3) (dst := qsP 3) rfl) $$ [Hwt03 HO]
  · isplitr; · iexact HR
    isplitl [Hwt03]; · iexact Hwt03
    iexact HO
  iintro ⟨Hgot03, HO⟩
  unfold run; rw [wp_ret]; imodintro
  iapply Hk
  isplitl [HO]; · iexact HO
  isplitl [Hgot01]; · iexact Hgot01
  isplitl [Hgot21]; · iexact Hgot21
  isplitl [Hgot02]; · iexact Hgot02
  isplitl [Hgot22]; · iexact Hgot22
  iexact Hgot03

/-! ## The whole body -/

abbrev stg (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre : sProp 𝕄 :=
  iprop((ghost σ m K c ∗ creds c ∗ levAts L lv ∗ scratch c) ∗ due c (O₀ σ c) ∗ xPts m c ∗ pPts m c
    ∗ (∃ f : (cc0_stg2_0 : Ref sig .tc).ty.Contents (Elt F), ((c : Thread nD τ).loc cc0_stg2_0) ↦{fullShare} f))
def bodyPost : sProp 𝕄 :=
  iprop(Φ₁ c ∗ due c 0 ∗ xPts m c ∗ pPts m c ∗ (((c : Thread nD τ).loc cc0_stg2_0) ↦{fullShare} (outAt σ m c)))

theorem joinQs : iprop(dmaPay σ m c 0 0 ∗ dmaPay σ m c 0 1 ∗ dmaPay σ m c 0 2 ∗ dmaPay σ m c 0 3)
    ⊢ (iprop(∃ X, owns (c : Thread nD τ) qsM fullShare X) : sProp 𝕄) := by
  iintro H; iexists _
  iapply (glue4 c qsM rQ (fun _ _ => rfl) rQ_disjoint rQ_cover (fun k => qC m c k)); iexact H
theorem joinSs : iprop(dmaPay σ m c 2 0 ∗ dmaPay σ m c 2 1 ∗ dmaPay σ m c 2 2 ∗ dmaPay σ m c 2 3)
    ⊢ (iprop(∃ X, owns (c : Thread nD τ) ssM fullShare X) : sProp 𝕄) := by
  iintro H; iexists _
  iapply (glue4 c ssM rS (fun _ _ => rfl) rS_disjoint rS_cover (fun k => sC m c k)); iexact H
theorem joinQr : iprop(dmaPay σ m c 1 0 ∗ dmaPay σ m c 1 1 ∗ dmaPay σ m c 1 2 ∗ dmaPay σ m c 1 3)
    ⊢ (iprop(∃ X, owns (c : Thread nD τ) qrM fullShare X) : sProp 𝕄) := by
  iintro H; iexists _
  iapply (glue4 c qrM rQ (fun _ _ => rfl) rQ_disjoint rQ_cover (fun k => qC m (σ.symm c) k)); iexact H
theorem joinSr : iprop(dmaPay σ m c 3 0 ∗ dmaPay σ m c 3 1 ∗ dmaPay σ m c 3 2 ∗ dmaPay σ m c 3 3)
    ⊢ (iprop(∃ X, owns (c : Thread nD τ) srM fullShare X) : sProp 𝕄) := by
  iintro H; iexists _
  iapply (glue4 c srM rS (fun _ _ => rfl) rS_disjoint rS_cover (fun k => sC m (σ.symm c) k)); iexact H
theorem joinO : iprop(outO σ m c 0 ∗ outO σ m c 1 ∗ outO σ m c 2 ∗ outO σ m c 3)
    ⊢ (iprop(((c : Thread nD τ).loc cc0_stg2_0) ↦{fullShare} (outAt σ m c)) : sProp 𝕄) := by
  have h := glue4 c oM rX (fun _ _ => rfl) rX_disjoint rX_cover (fun k => oC m (σ.symm c) k)
  rw [owns_whole] at h
  exact h
theorem cutO (f : (cc0_stg2_0 : Ref sig .tc).ty.Contents (Elt F)) : (((c : Thread nD τ).loc cc0_stg2_0) ↦{fullShare} f : sProp 𝕄)
    ⊢ iprop(anyO c 0 ∗ anyO c 1 ∗ anyO c 2 ∗ anyO c 3) := by
  rw [← owns_whole]
  iintro H
  iapply (cut4 c oM rX (fun _ _ => rfl) rX_disjoint rX_cover)
  iexists f; iexact H

set_option maxHeartbeats 4000000 in
/-- The body of the kernel on device `c`. -/
theorem sound_body (hpre : PreOK σ m) (Kt : PUnit → sProp 𝕄) :
    iprop(bodyPre σ m K c ∗ (bodyPost σ m c -∗ Kt ⟨⟩))
      ⊢ run c (cc0_body xM (Memref.isWhole_whole _) pM (Memref.isWhole_whole _) oM (Memref.isWhole_whole _) qsM (Memref.isWhole_whole _)
          ssM (Memref.isWhole_whole _) qrM (Memref.isWhole_whole _) srM (Memref.isWhole_whole _) cc0_scratch4 cc0_scratch5 cc0_scratch6 cc0_scratch7) Kt := by
  rw [cc0_body_eq_skeleton]; unfold cc0_body_skel run
  simp only [wp_bind]
  unfold bodyPre ghost creds linear sendTok sendPos recvPos recvCred scratch
  iintro ⟨⟨⟨⟨#HR, HaB, HtB, ⟨⟨HtQ0, HuQ0, HtS0, HuS0⟩, ⟨HtQ1, HuQ1, HtS1, HuS1⟩, ⟨HtQ2, HuQ2, HtS2, HuS2⟩, ⟨HtQ3, HuQ3, HtS3, HuS3⟩⟩, ⟨⟨HaQ0, HaS0⟩, ⟨HaQ1, HaS1⟩, ⟨HaQ2, HaS2⟩, ⟨HaQ3, HaS3⟩⟩, ⟨HaR0, HaT0⟩, ⟨HaR1, HaT1⟩, ⟨HaR2, HaT2⟩, ⟨HaR3, HaT3⟩⟩, ⟨HcB, ⟨HcR0, HcT0⟩, ⟨HcR1, HcT1⟩, ⟨HcR2, HcT2⟩, ⟨HcR3, HcT3⟩⟩, #HL, Hqs, Hss, Hqr, Hsr⟩, HO, Hx, Hp, ⟨%fo, Ho⟩⟩, Hk⟩
  ihave Hqs2 := (cut4 c qsM rQ (fun _ _ => rfl) rQ_disjoint rQ_cover) $$ Hqs
  icases Hqs2 with ⟨Hqs_0, Hqs_1, Hqs_2, Hqs_3⟩
  ihave Hss2 := (cut4 c ssM rS (fun _ _ => rfl) rS_disjoint rS_cover) $$ Hss
  icases Hss2 with ⟨Hss_0, Hss_1, Hss_2, Hss_3⟩
  ihave Hqr2 := (cut4 c qrM rQ (fun _ _ => rfl) rQ_disjoint rQ_cover) $$ Hqr
  icases Hqr2 with ⟨Hqr_0, Hqr_1, Hqr_2, Hqr_3⟩
  ihave Hsr2 := (cut4 c srM rS (fun _ _ => rfl) rS_disjoint rS_cover) $$ Hsr
  icases Hsr2 with ⟨Hsr_0, Hsr_1, Hsr_2, Hsr_3⟩
  ihave Ho2 := (cutO c fo) $$ Ho
  icases Ho2 with ⟨HanyO0, HanyO1, HanyO2, HanyO3⟩
  iapply (part1_ok σ m K c hpre)
  isplitl [HaB HcB HtB HO Hx Hp Hqr_0 Hsr_0 Hqr_1 Hsr_1 Hqr_2 Hsr_2 Hqr_3 Hsr_3]
  · isplitr; · iexact HR
    isplitr; · iexact HL
    isplitl [HaB]; · iexact HaB
    isplitl [HcB]; · iexact HcB
    isplitl [HtB]; · iexact HtB
    isplitl [Hqr_0 Hsr_0 Hqr_1 Hsr_1 Hqr_2 Hsr_2 Hqr_3 Hsr_3]
    · unfold land
      isplitl [Hqr_0 Hsr_0]
      · isplitl [Hqr_0]; · iexact Hqr_0
        iexact Hsr_0
      isplitl [Hqr_1 Hsr_1]
      · isplitl [Hqr_1]; · iexact Hqr_1
        iexact Hsr_1
      isplitl [Hqr_2 Hsr_2]
      · isplitl [Hqr_2]; · iexact Hqr_2
        iexact Hsr_2
      isplitl [Hqr_3]; · iexact Hqr_3
      iexact Hsr_3
    isplitl [HO]; · iexact HO
    isplitl [Hx]; · iexact Hx
    iexact Hp
  iintro ⟨Hb, HzB, HO, Hx, Hp⟩
  unfold barPay land
  icases Hb with ⟨⟨Hqd_0, Hsd_0⟩, ⟨Hqd_1, Hsd_1⟩, ⟨Hqd_2, Hsd_2⟩, ⟨Hqd_3, Hsd_3⟩⟩
  ihave HfreeQ0 : freeQ σ c 0 $$ [HaQ0 HtQ0 HuQ0 Hqs_0 Hqd_0]
  · unfold freeQ
    isplitl [HaQ0]; · iexact HaQ0
    isplitl [HtQ0]; · iexact HtQ0
    isplitl [HuQ0]; · iexact HuQ0
    isplitl [Hqs_0]; · iexact Hqs_0
    iexact Hqd_0
  ihave HfreeS0 : freeS σ c 0 $$ [HaS0 HtS0 HuS0 Hss_0 Hsd_0]
  · unfold freeS
    isplitl [HaS0]; · iexact HaS0
    isplitl [HtS0]; · iexact HtS0
    isplitl [HuS0]; · iexact HuS0
    isplitl [Hss_0]; · iexact Hss_0
    iexact Hsd_0
  ihave Hwt10 : wt c 1 0 $$ [HaR0 HcR0]
  · unfold wt
    isplitl [HaR0]; · iexact HaR0
    iexact HcR0
  ihave Hwt30 : wt c 3 0 $$ [HaT0 HcT0]
  · unfold wt
    isplitl [HaT0]; · iexact HaT0
    iexact HcT0
  ihave HfreeQ1 : freeQ σ c 1 $$ [HaQ1 HtQ1 HuQ1 Hqs_1 Hqd_1]
  · unfold freeQ
    isplitl [HaQ1]; · iexact HaQ1
    isplitl [HtQ1]; · iexact HtQ1
    isplitl [HuQ1]; · iexact HuQ1
    isplitl [Hqs_1]; · iexact Hqs_1
    iexact Hqd_1
  ihave HfreeS1 : freeS σ c 1 $$ [HaS1 HtS1 HuS1 Hss_1 Hsd_1]
  · unfold freeS
    isplitl [HaS1]; · iexact HaS1
    isplitl [HtS1]; · iexact HtS1
    isplitl [HuS1]; · iexact HuS1
    isplitl [Hss_1]; · iexact Hss_1
    iexact Hsd_1
  ihave Hwt11 : wt c 1 1 $$ [HaR1 HcR1]
  · unfold wt
    isplitl [HaR1]; · iexact HaR1
    iexact HcR1
  ihave Hwt31 : wt c 3 1 $$ [HaT1 HcT1]
  · unfold wt
    isplitl [HaT1]; · iexact HaT1
    iexact HcT1
  ihave HfreeQ2 : freeQ σ c 2 $$ [HaQ2 HtQ2 HuQ2 Hqs_2 Hqd_2]
  · unfold freeQ
    isplitl [HaQ2]; · iexact HaQ2
    isplitl [HtQ2]; · iexact HtQ2
    isplitl [HuQ2]; · iexact HuQ2
    isplitl [Hqs_2]; · iexact Hqs_2
    iexact Hqd_2
  ihave HfreeS2 : freeS σ c 2 $$ [HaS2 HtS2 HuS2 Hss_2 Hsd_2]
  · unfold freeS
    isplitl [HaS2]; · iexact HaS2
    isplitl [HtS2]; · iexact HtS2
    isplitl [HuS2]; · iexact HuS2
    isplitl [Hss_2]; · iexact Hss_2
    iexact Hsd_2
  ihave Hwt12 : wt c 1 2 $$ [HaR2 HcR2]
  · unfold wt
    isplitl [HaR2]; · iexact HaR2
    iexact HcR2
  ihave Hwt32 : wt c 3 2 $$ [HaT2 HcT2]
  · unfold wt
    isplitl [HaT2]; · iexact HaT2
    iexact HcT2
  ihave HfreeQ3 : freeQ σ c 3 $$ [HaQ3 HtQ3 HuQ3 Hqs_3 Hqd_3]
  · unfold freeQ
    isplitl [HaQ3]; · iexact HaQ3
    isplitl [HtQ3]; · iexact HtQ3
    isplitl [HuQ3]; · iexact HuQ3
    isplitl [Hqs_3]; · iexact Hqs_3
    iexact Hqd_3
  ihave HfreeS3 : freeS σ c 3 $$ [HaS3 HtS3 HuS3 Hss_3 Hsd_3]
  · unfold freeS
    isplitl [HaS3]; · iexact HaS3
    isplitl [HtS3]; · iexact HtS3
    isplitl [HuS3]; · iexact HuS3
    isplitl [Hss_3]; · iexact Hss_3
    iexact Hsd_3
  ihave Hwt13 : wt c 1 3 $$ [HaR3 HcR3]
  · unfold wt
    isplitl [HaR3]; · iexact HaR3
    iexact HcR3
  ihave Hwt33 : wt c 3 3 $$ [HaT3 HcT3]
  · unfold wt
    isplitl [HaT3]; · iexact HaT3
    iexact HcT3
  iapply (part2_ok σ m K c)
  isplitl [HfreeQ0 HfreeS0 HO Hx]
  · isplitr; · iexact HR
    isplitl [HfreeQ0]; · iexact HfreeQ0
    isplitl [HfreeS0]; · iexact HfreeS0
    isplitl [HO]; · iexact HO
    iexact Hx
  iintro ⟨HO, Hwt00, Hwt20, Hx⟩
  iapply (part3_ok σ m K c)
  isplitl [HfreeQ1 HfreeS1 HO]
  · isplitr; · iexact HR
    isplitl [HfreeQ1]; · iexact HfreeQ1
    isplitl [HfreeS1]; · iexact HfreeS1
    iexact HO
  iintro ⟨HhalfS1, HO, Hwt01⟩
  iapply (part4_ok σ m K c)
  isplitl [HO HhalfS1 Hx HfreeQ2 HfreeS2]
  · isplitr; · iexact HR
    isplitl [HO]; · iexact HO
    isplitl [HhalfS1]; · iexact HhalfS1
    isplitl [Hx]; · iexact Hx
    isplitl [HfreeQ2]; · iexact HfreeQ2
    iexact HfreeS2
  iintro ⟨HO, Hwt21, Hx, HhalfS2, Hwt02⟩
  iapply (part5_ok σ m K c _)
  isplitl [HO HhalfS2 Hx HfreeQ3 HfreeS3]
  · isplitr; · iexact HR
    isplitl [HO]; · iexact HO
    isplitl [HhalfS2]; · iexact HhalfS2
    isplitl [Hx]; · iexact Hx
    isplitl [HfreeQ3]; · iexact HfreeQ3
    iexact HfreeS3
  iintro ⟨HO, Hwt22, Hx, HhalfQ3, HhalfS3⟩
  iapply (part6_ok σ m K c)
  isplitl [HO HhalfQ3 HhalfS3 Hwt10 Hwt30]
  · isplitr; · iexact HR
    isplitl [HO]; · iexact HO
    isplitl [HhalfQ3]; · iexact HhalfQ3
    isplitl [HhalfS3]; · iexact HhalfS3
    isplitl [Hwt10]; · iexact Hwt10
    iexact Hwt30
  iintro ⟨HO, Hwt03, Hwt23, Hgot10, Hgot30⟩
  iapply (part7_ok σ m K c)
  isplitl [Hgot30 HanyO0 Hwt11 HO Hwt31 HanyO1]
  · isplitr; · iexact HR
    isplitl [Hgot30]; · iexact Hgot30
    isplitl [HanyO0]; · iexact HanyO0
    isplitl [Hwt11]; · iexact Hwt11
    isplitl [HO]; · iexact HO
    isplitl [Hwt31]; · iexact Hwt31
    iexact HanyO1
  iintro ⟨Hgot30, HoutO0, HO, Hgot11, Hgot31, HoutO1⟩
  iapply (part8_ok σ m K c)
  isplitl [Hwt12 HO Hwt32 HanyO2]
  · isplitr; · iexact HR
    isplitl [Hwt12]; · iexact Hwt12
    isplitl [HO]; · iexact HO
    isplitl [Hwt32]; · iexact Hwt32
    iexact HanyO2
  iintro ⟨HO, Hgot12, Hgot32, HoutO2⟩
  iapply (part9_ok σ m K c)
  isplitl [Hwt13 HO Hwt33 HanyO3 Hwt00 Hwt20]
  · isplitr; · iexact HR
    isplitl [Hwt13]; · iexact Hwt13
    isplitl [HO]; · iexact HO
    isplitl [Hwt33]; · iexact Hwt33
    isplitl [HanyO3]; · iexact HanyO3
    isplitl [Hwt00]; · iexact Hwt00
    iexact Hwt20
  iintro ⟨HO, Hgot13, Hgot33, HoutO3, Hgot00, Hgot20⟩
  iapply (part10_ok σ m K c)
  isplitl [Hwt01 HO Hwt21 Hwt02 Hwt22 Hwt03]
  · isplitr; · iexact HR
    isplitl [Hwt01]; · iexact Hwt01
    isplitl [HO]; · iexact HO
    isplitl [Hwt21]; · iexact Hwt21
    isplitl [Hwt02]; · iexact Hwt02
    isplitl [Hwt22]; · iexact Hwt22
    iexact Hwt03
  iintro ⟨HO, Hgot01, Hgot21, Hgot02, Hgot22, Hgot03⟩
  simp only [Prog.lift, Prog.bind_op, Prog.bind_ret, Prog.pure_eq_ret, wp_bind]
  iapply (wp_wait σ m K c 2 3 (src := srP 3) (dst := ssP 3) rfl) $$ [Hwt23 HO]
  · isplitr; · iexact HR
    isplitl [Hwt23]; · iexact Hwt23
    iexact HO
  iintro ⟨Hgot23, HO⟩
  unfold run; rw [wp_ret]; imodintro; rw [wp_ret]; imodintro
  iapply Hk
  unfold bodyPost Φ₁ scratch zeros sendZero recvZero got
  icases Hgot00 with ⟨Hd00, Hz00⟩
  icases Hgot10 with ⟨Hd10, Hz10⟩
  icases Hgot20 with ⟨Hd20, Hz20⟩
  icases Hgot30 with ⟨Hd30, Hz30⟩
  icases Hgot01 with ⟨Hd01, Hz01⟩
  icases Hgot11 with ⟨Hd11, Hz11⟩
  icases Hgot21 with ⟨Hd21, Hz21⟩
  icases Hgot31 with ⟨Hd31, Hz31⟩
  icases Hgot02 with ⟨Hd02, Hz02⟩
  icases Hgot12 with ⟨Hd12, Hz12⟩
  icases Hgot22 with ⟨Hd22, Hz22⟩
  icases Hgot32 with ⟨Hd32, Hz32⟩
  icases Hgot03 with ⟨Hd03, Hz03⟩
  icases Hgot13 with ⟨Hd13, Hz13⟩
  icases Hgot23 with ⟨Hd23, Hz23⟩
  icases Hgot33 with ⟨Hd33, Hz33⟩
  isplitl [Hd00 Hd01 Hd02 Hd03 Hd10 Hd11 Hd12 Hd13 Hd20 Hd21 Hd22 Hd23 Hd30 Hd31 Hd32 Hd33 HzB Hz00 Hz01 Hz02 Hz03 Hz10 Hz11 Hz12 Hz13 Hz20 Hz21 Hz22 Hz23 Hz30 Hz31 Hz32 Hz33]
  · isplitl [Hd00 Hd01 Hd02 Hd03 Hd10 Hd11 Hd12 Hd13 Hd20 Hd21 Hd22 Hd23 Hd30 Hd31 Hd32 Hd33]
    · isplitl [Hd00 Hd01 Hd02 Hd03]
      · iapply (joinQs σ m c)
        isplitl [Hd00]; · iexact Hd00
        isplitl [Hd01]; · iexact Hd01
        isplitl [Hd02]; · iexact Hd02
        iexact Hd03
      isplitl [Hd20 Hd21 Hd22 Hd23]
      · iapply (joinSs σ m c)
        isplitl [Hd20]; · iexact Hd20
        isplitl [Hd21]; · iexact Hd21
        isplitl [Hd22]; · iexact Hd22
        iexact Hd23
      isplitl [Hd10 Hd11 Hd12 Hd13]
      · iapply (joinQr σ m c)
        isplitl [Hd10]; · iexact Hd10
        isplitl [Hd11]; · iexact Hd11
        isplitl [Hd12]; · iexact Hd12
        iexact Hd13
      iapply (joinSr σ m c)
      isplitl [Hd30]; · iexact Hd30
      isplitl [Hd31]; · iexact Hd31
      isplitl [Hd32]; · iexact Hd32
      iexact Hd33
    isplitl [HzB]; · iexact HzB
    isplitl [Hz00 Hz20 Hz01 Hz21 Hz02 Hz22 Hz03 Hz23]
    · isplitl [Hz00 Hz20]
      · isplitl [Hz00]; · iexact Hz00
        iexact Hz20
      isplitl [Hz01 Hz21]
      · isplitl [Hz01]; · iexact Hz01
        iexact Hz21
      isplitl [Hz02 Hz22]
      · isplitl [Hz02]; · iexact Hz02
        iexact Hz22
      isplitl [Hz03]; · iexact Hz03
      iexact Hz23
    isplitl [Hz10 Hz30]
    · isplitl [Hz10]; · iexact Hz10
      iexact Hz30
    isplitl [Hz11 Hz31]
    · isplitl [Hz11]; · iexact Hz11
      iexact Hz31
    isplitl [Hz12 Hz32]
    · isplitl [Hz12]; · iexact Hz12
      iexact Hz32
    isplitl [Hz13]; · iexact Hz13
    iexact Hz33
  isplitl [HO]; · iexact HO
  isplitl [Hx]; · iexact Hx
  isplitl [Hp]; · iexact Hp
  iapply (joinO σ m c)
  isplitl [HoutO0]; · iexact HoutO0
  isplitl [HoutO1]; · iexact HoutO1
  isplitl [HoutO2]; · iexact HoutO2
  iexact HoutO3

set_option maxRecDepth 4000 in
def bodyPre' : sProp 𝕄 :=
  iprop(Φ₀ σ m c ∗ (dats σ m 0 c).owesAt () t0_0.castSucc
    ∗ (∃ d, stg c cc0_stg0_0 ((dats σ m 0 c).before (0 : Fin 3) t0_0 d))
    ∗ (∃ d, stg c cc0_stg1_0 ((dats σ m 0 c).before (1 : Fin 3) t0_0 d))
    ∗ (∃ d, stg c cc0_stg2_0 ((dats σ m 0 c).before (2 : Fin 3) t0_0 d)))
def bodyPost' : sProp 𝕄 :=
  iprop(Φ₁ c ∗ (dats σ m 0 c).owesAt () t0_0.succ
    ∗ stg c cc0_stg0_0 (xstg m c) ∗ stg c cc0_stg1_0 (pstg m c) ∗ stg c cc0_stg2_0 (outAt σ m c))

set_option maxRecDepth 4000 in
/-- The library's body obligation on core `c`. -/
theorem body_obligation (hpre : PreOK σ m) : BodyObligation (dats (F := F) σ m 0 c) (defs₀ (F := F)) 𝒱₀ () Set.univ := fun t => by
  rw [fin_N0 t]
  rw [bigSep_W0, bigSep_W0]
  simp only [owns_whole_eq]
  show bodyPre' σ m c ⊢ run c (cc0_body xM (Memref.isWhole_whole _) pM (Memref.isWhole_whole _) oM (Memref.isWhole_whole _) qsM (Memref.isWhole_whole _)
          ssM (Memref.isWhole_whole _) qrM (Memref.isWhole_whole _) srM (Memref.isWhole_whole _) cc0_scratch4 cc0_scratch5 cc0_scratch6 cc0_scratch7) (fun _ => bodyPost' σ m c)
  unfold bodyPre' Φ₀ start
  iintro ⟨⟨⟨⟨%K, Hg⟩, Hc, HL⟩, Hscr⟩, Ho, ⟨%d0, %g0, %hg0, Hx⟩, ⟨%d1, %g1, %hg1, Hp⟩, ⟨%d2, %g2, %hg2, Hout⟩⟩
  have hx : g0 = xstg m c := by rw [hg0]; unfold Dat.before; rw [if_pos (fetch0_0 t0_0)]; rfl
  have hp : g1 = pstg m c := by rw [hg1]; unfold Dat.before; rw [if_pos (fetch0_1 t0_0)]; rfl
  subst hx hp
  unfold Dat.owesAt Pipeline.owesWithin
  icases Ho with ⟨%W, %hW, HO⟩
  rw [show (dats σ m 0 c).owed t0_0.castSucc = O₀ σ c from rfl]
  iapply (sound_body σ m K c hpre)
  isplitl [Hg Hc HL Hscr HO Hx Hp Hout]
  · unfold bodyPre
    isplitl [Hg Hc HL Hscr]
    · isplitl [Hg]; · iexact Hg
      isplitl [Hc]; · iexact Hc
      isplitl [HL]; · iexact HL
      iexact Hscr
    isplitl [HO]; · unfold due; iexists W; iexact HO
    isplitl [Hx]; · iexact Hx
    isplitl [Hp]; · iexact Hp
    iexists g2; iexact Hout
  unfold bodyPost bodyPost' due Dat.owesAt Pipeline.owesWithin
  rw [show (dats σ m 0 c).owed t0_0.succ = 0 from rfl]
  iintro ⟨HΦ, ⟨%W', HO⟩, Hx, Hp, Ho⟩
  isplitl [HΦ]; · iexact HΦ
  isplitl [HO]
  · iexists W'
    isplitr; · ipureintro; exact fun _ _ => Or.inl trivial
    iexact HO
  isplitl [Hx]
  · iexists _; isplitr; · (ipureintro; rfl)
    iexact Hx
  isplitl [Hp]
  · iexists _; isplitr; · (ipureintro; rfl)
    iexact Hp
  iexists _; isplitr; · (ipureintro; rfl)
  iexact Ho

end Cert.KernelIdeal.Wire

end
-- ==== Proof.IdealLaunch.lean ====
/-
# The launch: every device's share of the exchange, and the run

The seventeen cells of each device are allocated; the tokens of the duties are dealt to the devices that pay them —
a barrier's to the device that is sent to, a landing's to the device it comes from — and the launch's credit is read
off what the devices owe. The run's statement is at the end.
-/
module

public import proofs.«01_k».proof.Proof.IdealBody
public import Idealize.ShloMosaic.Lib.Pipeline.CollectiveSegs

@[expose] public section

noncomputable section

namespace Cert.KernelIdeal.Wire

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (σ : Dev nD ≃ Dev nD) (m : (ℓ : Loc nD τ sig) → Buf (Elt F) ℓ) (ρ : Dev nD → PrngReg)

/-! ## The seventeen cells -/

theorem ownSemFacts : Pipeline.OwnSemFacts cfg0.spec osem := by decide

theorem share_eq (c : Dev nD) (w : Fin cfg0.W) : (dats σ m 0 c).share w = fullShare := by unfold Dat.share; split <;> rfl

theorem csem_injective : Function.Injective csem := by decide
theorem kcell_injective : Function.Injective (kcell : Dev nD × Fin 17 → GSem nD τ sig) := by
  rintro ⟨c, k⟩ ⟨c', k'⟩ h
  have h1 : c = c' := congrArg (fun g : GSem nD τ sig => g.1.1) h
  have h2 : k = k' := csem_injective (congrArg Prod.snd h)
  rw [h1, h2]

theorem cix_injective : Function.Injective fun jk : Fin 4 × Fin 4 => cix jk.1 jk.2 := by decide
theorem cix_all : (Finset.univ : Finset (Fin 17)).erase 0 = Finset.univ.map ⟨fun jk : Fin 4 × Fin 4 => cix jk.1 jk.2, cix_injective⟩ := by decide

/-- The four cells of a family. -/
def row (Φ : Fin 17 → sProp 𝕄) (j : Fin 4) : sProp 𝕄 := bigSep Finset.univ fun k : Fin 4 => Φ (cix j k)

/-- What is held of all seventeen cells is held of the barrier's and of the four families'. -/
theorem cells_eq (Φ : Fin 17 → sProp 𝕄) :
    bigSep Finset.univ Φ = iprop(Φ 0 ∗ row Φ 0 ∗ row Φ 1 ∗ row Φ 2 ∗ row Φ 3) := by
  rw [bigSep_univ_at Φ 0, cix_all, bigSep_map, bigSep_univ_prod, bigSep_fin4]; rfl

/-- A family's cells, by their names. -/
theorem row_cells (Ψ : GSem nD τ sig → sProp 𝕄) (c : Dev nD) (j : Fin 4) :
    row (fun i => Ψ (kcell (c, i))) j = bigSep Finset.univ fun k : Fin 4 => Ψ (dcell c j k) := by
  unfold row; exact bigSep_congr fun k _ => by show Ψ (kcell (c, cix j k)) = _; rw [kcell_cix]

/-- Two families side by side, chunk by chunk. -/
theorem pair_rows (A B : Fin 4 → sProp 𝕄) :
    iprop(bigSep Finset.univ A ∗ bigSep Finset.univ B) = iprop((A 0 ∗ B 0) ∗ (A 1 ∗ B 1) ∗ (A 2 ∗ B 2) ∗ (A 3 ∗ B 3)) := by
  rw [← bigSep_sep', bigSep_fin4]

/-! ## What the launch mints -/

def ringCells : Finset (GSem nD τ sig) := Finset.univ.map ⟨kcell, kcell_injective⟩
def ringToks : Finset (GSem nD τ sig × ℕ × Unit) :=
  Finset.univ.map ⟨fun ck : Dev nD × Fin 17 => (kcell ck, 0, ()), fun _ _ h => kcell_injective (congrArg Prod.fst h)⟩

def u₀ : UU := (initOf (Pipeline.cells cfgs cellOf_inj) (Pipeline.launchToks cfgs cellOf_inj), initOf ringCells ringToks)

/-- The tokens of the duties of device `c`'s own cells. -/
def toks (c : Dev nD) : sProp 𝕄 := bigSep Finset.univ fun k : Fin 17 => dutyTok ER (kcell (c, k)) 0 ()
/-- The positions at its cells. -/
def posn (c : Dev nD) : sProp 𝕄 := bigSep Finset.univ fun k : Fin 17 => atPos ER (kcell (c, k)) 0 ∅ 0

def G (c : Dev nD) : sProp 𝕄 :=
  iprop((bigSep Finset.univ fun k : Fin 17 => roundState ER (rd σ m) (kcell (c, k)) 0)
    ∗ (posn c ∗ bigSep Finset.univ fun k : Fin 17 => reached ER (kcell (c, k)) 0) ∗ toks c)
def G' (c : Dev nD) : sProp 𝕄 := iprop(∃ K, ghost σ m K c)

theorem fund_ring : BI.own (ER (initOf ringCells ringToks)) ⊢ (|==> bigSep Finset.univ (G σ m) : sProp 𝕄) := by
  have hX (Φ : GSem nD τ sig → sProp 𝕄) : bigSep ringCells Φ = bigSep Finset.univ fun c : Dev nD => bigSep Finset.univ fun k : Fin 17 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks toks; rw [bigSep_map, bigSep_univ_prod]; rfl
  iintro HX
  imod (Rounds.fund ER (rd σ m) ringCells ringToks) $$ HX with ⟨Hst, Hr, Hat, Htok⟩
  imodintro
  ihave Hst' := (Entails.of_eq (hX fun g => roundState ER (rd σ m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G posn; simp only [bigSep_sep']
  isplitl [Hst']; · iexact Hst'
  isplitl [Hat' Hr']
  · isplitl [Hat'] <;> iassumption
  iexact Htok'

theorem unscopedSems0_eq (c : Dev nD) : (unscopedSems0 c : sProp 𝕄) = semVal (barCell c) 0 := by
  unfold unscopedSems0; rw [bigSep_eq_bigSepL_of_eq [SemLoc.reg barS] (by decide) (by decide)]; rfl

/-- All seventeen of a device's semaphores at zero: the barrier's and the kernel's own. -/
theorem sems0_eq (c : Dev nD) :
    iprop(unscopedSems0 c ∗ Pipeline.ownSems0 (Ix := Unit) (Name := ℕ) (U := UU) (Lvl := ℕ) (Val := Elt F) (τ := τ) osem c)
      = (bigSep Finset.univ fun k : Fin 17 => semVal (kcell (c, k)) 0 : sProp 𝕄) := by
  rw [unscopedSems0_eq, bigSep_univ_at _ (0 : Fin 17),
    show (Finset.univ : Finset (Fin 17)).erase 0 = Finset.univ.map ⟨Fin.succ, Fin.succ_injective 16⟩ from by decide, bigSep_map]
  rfl

theorem core_alloc (c : Dev nD) :
    iprop(Pipeline.ownSems0 (Ix := Unit) (Name := ℕ) (U := UU) (Lvl := ℕ) (Val := Elt F) (τ := τ) osem c ∗ unscopedSems0 c ∗ G σ m c)
      ⊢ |={Set.univ}=> iprop((bigSep Finset.univ fun k => iprop(∃ κ : ℕ, cellInv ER (rd σ m) κ (kcell (c, k))))
          ∗ (posn c ∗ bigSep Finset.univ fun k : Fin 17 => reached ER (kcell (c, k)) 0) ∗ toks c) := by
  unfold G
  iintro ⟨Hos, Hus, Hst, Hat, Htok⟩
  ihave Hv := (Entails.of_eq (sems0_eq (F := F) c)) $$ [Hos Hus]
  · isplitl [Hus] <;> iassumption
  imod (show iprop((bigSep Finset.univ fun k : Fin 17 => semVal (kcell (c, k)) 0) ∗ bigSep Finset.univ fun k : Fin 17 => roundState ER (rd σ m) (kcell (c, k)) 0)
      ⊢ (|={Set.univ}=> bigSep Finset.univ fun k => iprop(∃ κ : ℕ, cellInv ER (rd σ m) κ (kcell (c, k))) : sProp 𝕄) from by
        rw [← bigSep_sep']
        exact (bigSep_mono fun k _ => (Rounds.body_intro ER (rd σ m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt to the devices that pay -/

/-- The tokens of the duties device `c` pays. -/
def payToks (c : Dev nD) : sProp 𝕄 :=
  iprop(dutyTok ER (barCell (σ.symm c)) 0 ()
    ∗ (bigSep Finset.univ fun k : Fin 4 => dutyTok ER (dcell c 0 k) 0 ())
    ∗ (bigSep Finset.univ fun k : Fin 4 => dutyTok ER (dcell (σ c) 1 k) 0 ())
    ∗ (bigSep Finset.univ fun k : Fin 4 => dutyTok ER (dcell c 2 k) 0 ())
    ∗ (bigSep Finset.univ fun k : Fin 4 => dutyTok ER (dcell (σ c) 3 k) 0 ()))

theorem toks_around : (bigSep Finset.univ fun c : Dev nD => (toks c : sProp 𝕄)) ⊢ bigSep Finset.univ fun c : Dev nD => payToks (F := F) σ c := by
  have h (c : Dev nD) : (toks c : sProp 𝕄) = iprop(dutyTok ER (barCell c) 0 ()
      ∗ (bigSep Finset.univ fun k : Fin 4 => dutyTok ER (dcell c 0 k) 0 ())
      ∗ (bigSep Finset.univ fun k : Fin 4 => dutyTok ER (dcell c 1 k) 0 ())
      ∗ (bigSep Finset.univ fun k : Fin 4 => dutyTok ER (dcell c 2 k) 0 ())
      ∗ (bigSep Finset.univ fun k : Fin 4 => dutyTok ER (dcell c 3 k) 0 ())) := by
    unfold toks
    rw [cells_eq, row_cells (fun g => dutyTok ER g 0 ()), row_cells (fun g => dutyTok ER g 0 ()),
      row_cells (fun g => dutyTok ER g 0 ()), row_cells (fun g => dutyTok ER g 0 ())]
    rfl
  rw [bigSep_congr (s := Finset.univ) fun c _ => h c]
  unfold payToks
  rw [bigSep_sep', bigSep_sep', bigSep_sep', bigSep_sep', bigSep_sep', bigSep_sep', bigSep_sep', bigSep_sep',
    bigSep_univ_equiv σ.symm (fun c : Dev nD => (dutyTok ER (barCell c) 0 () : sProp 𝕄)),
    bigSep_univ_equiv σ (fun c : Dev nD => (bigSep Finset.univ fun k : Fin 4 => dutyTok ER (dcell c 1 k) 0 () : sProp 𝕄)),
    bigSep_univ_equiv σ (fun c : Dev nD => (bigSep Finset.univ fun k : Fin 4 => dutyTok ER (dcell c 3 k) 0 () : sProp 𝕄))]

/-- A device's positions and the tokens it pays with, chunk by chunk. -/
theorem linear_intro (c : Dev nD) : iprop(posn c ∗ payToks σ c) ⊢ (linear σ c : sProp 𝕄) := by
  have h : (posn c : sProp 𝕄) = iprop(atPos ER (barCell c) 0 ∅ 0
      ∗ (bigSep Finset.univ fun k : Fin 4 => atPos ER (dcell c 0 k) 0 ∅ 0)
      ∗ (bigSep Finset.univ fun k : Fin 4 => atPos ER (dcell c 1 k) 0 ∅ 0)
      ∗ (bigSep Finset.univ fun k : Fin 4 => atPos ER (dcell c 2 k) 0 ∅ 0)
      ∗ (bigSep Finset.univ fun k : Fin 4 => atPos ER (dcell c 3 k) 0 ∅ 0)) := by
    unfold posn
    rw [cells_eq, row_cells (fun g => atPos ER g 0 ∅ 0), row_cells (fun g => atPos ER g 0 ∅ 0),
      row_cells (fun g => atPos ER g 0 ∅ 0), row_cells (fun g => atPos ER g 0 ∅ 0)]
    rfl
  rw [h]
  unfold payToks linear
  iintro ⟨⟨HaB, Ha0, Ha1, Ha2, Ha3⟩, HtB, Ht0, Ht1, Ht2, Ht3⟩
  isplitl [HaB]; · iexact HaB
  isplitl [HtB]; · iexact HtB
  isplitl [Ht0 Ht1 Ht2 Ht3]
  · have e := bigSep_fin4 (F := F) (fun k => sendTok σ c k)
    iapply (Entails.of_eq e)
    unfold sendTok
    rw [bigSep_sep', bigSep_sep', bigSep_sep']
    isplitl [Ht0]; · iexact Ht0
    isplitl [Ht1]; · iexact Ht1
    isplitl [Ht2] <;> iassumption
  isplitl [Ha0 Ha2]
  · iapply (Entails.of_eq (bigSep_fin4 (F := F) (fun k => sendPos c k)))
    unfold sendPos
    rw [bigSep_sep']
    isplitl [Ha0] <;> iassumption
  · iapply (Entails.of_eq (bigSep_fin4 (F := F) (fun k => recvPos c k)))
    unfold recvPos
    rw [bigSep_sep']
    isplitl [Ha1] <;> iassumption

theorem ghost_intro (K : Dev nD × Fin 17 → ℕ) (c : Dev nD) : iprop(records σ m K ∗ (posn c ∗ payToks σ c)) ⊢ (G' σ m c : sProp 𝕄) := by
  unfold G' ghost
  iintro ⟨HR, HL⟩
  iexists K
  isplitl [HR]; · iexact HR
  iapply (linear_intro σ c); iexact HL

/-- What all share beside every device's own: every device gets both. -/
theorem deal_shared {S : Finset (Dev nD)} {R : sProp 𝕄} [BI.Persistent R] {Φ Ψ : Dev nD → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (rd σ m) κ (kcell (c, k))))
          ∗ (posn c ∗ bigSep Finset.univ fun k : Fin 17 => reached ER (kcell (c, k)) 0) ∗ toks c) : sProp 𝕄)
      ⊢ bigSep Finset.univ (G' σ m) := by
  rw [bigSep_sep', bigSep_sep', bigSep_sep', ← bigSep_univ_prod (fun ck : Dev nD × Fin 17 => iprop(∃ κ : ℕ, cellInv ER (rd σ m) κ (kcell ck))),
    ← bigSep_univ_prod (fun ck : Dev nD × Fin 17 => (reached ER (kcell ck) 0 : sProp 𝕄))]
  iintro ⟨HI, ⟨Hat, #HR⟩, Htok⟩
  ihave HK := (BI.bigSep_exists_pi Finset.univ (fun (ck : Dev nD × Fin 17) (κ : ℕ) => (cellInv ER (rd σ m) κ (kcell ck) : sProp 𝕄))) $$ HI
  icases HK with ⟨%K, #HI⟩
  ihave Htk := (toks_around (F := F) σ) $$ Htok
  iapply (deal_shared (R := records σ m K) fun c _ => ghost_intro σ m K c)
  isplitr
  · unfold records; isplitl; · iexact HI
    iexact HR
  · rw [bigSep_sep']
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G σ m c) : sProp 𝕄)
    ⊢ |={Set.univ}=> bigSep Finset.univ (G' σ m) :=
  ((bigSep_mono fun c _ => core_alloc σ m c).trans (bigSep_fupd _ _)).trans (BI.fupd_mono (regroup σ m))

/-! ## The launch's credit -/

theorem dcell_eq_iff {a b : Dev nD} {j k j' k' : Fin 4} : Iff (dcell a j k = dcell b j' k') (a = b ∧ j = j' ∧ k = k') := by
  constructor
  · intro h
    have h1 : a = b := congrArg (fun g : GSem nD τ sig => g.1.1) h
    have h2 : SemLoc.dma (dsem j k) = SemLoc.dma (dsem j' k') := congrArg Prod.snd h
    have h3 : dsem j k = dsem j' k' := SemLoc.dma.inj h2
    exact ⟨h1, by rw [← fam_dsem j k, h3, fam_dsem], by rw [← chk_dsem j k, h3, chk_dsem]⟩
  · rintro ⟨rfl, rfl, rfl⟩; rfl
theorem bar_eq_iff {a b : Dev nD} : Iff (barCell a = barCell b) (a = b) :=
  ⟨fun h => congrArg (fun g : GSem nD τ sig => g.1.1) h, fun h => h ▸ rfl⟩
theorem bar_ne_dcell {a b : Dev nD} {j k : Fin 4} : barCell a ≠ dcell b j k := fun h => by
  have h2 : SemLoc.reg barS = SemLoc.dma (dsem j k) := congrArg Prod.snd h
  cases h2

theorem oweL_bar (d c : Dev nD) : ∀ l, oweL σ d l (barCell c) () = 0
  | [] => rfl
  | (j, k) :: l => by
    unfold oweL
    rw [Pi.add_apply, Finsupp.add_apply, oweL_bar d c l, tallyAt_apply, if_neg fun h => bar_ne_dcell h.1]
theorem oweL_dma (d c : Dev nD) (j k : Fin 4) : ∀ l : List (Fin 4 × Fin 4), oweL σ d l (dcell c j k) () = if d = σ.symm c then amt j * l.count (j, k) else 0
  | [] => by rw [List.count_nil, Nat.mul_zero, ite_self]; rfl
  | (j', k') :: l => by
    unfold oweL
    rw [Pi.add_apply, Finsupp.add_apply, oweL_dma d c j k l, tallyAt_apply, List.count_cons]
    by_cases h : d = σ.symm c
    · have hc : c = σ d := by rw [h, Equiv.apply_symm_apply]
      rw [if_pos h, if_pos h]
      by_cases hp : (j', k') = (j, k)
      · obtain ⟨rfl, rfl⟩ := Prod.mk.inj hp
        rw [if_pos ⟨by rw [hc], rfl⟩, if_pos (by simp), Nat.mul_add, Nat.mul_one]
      · rw [if_neg (fun e => hp (by have := (dcell_eq_iff.mp e.1).2; rw [this.1, this.2])), if_neg (by simpa using hp), Nat.add_zero, Nat.add_zero]
    · rw [if_neg h, if_neg h, if_neg (fun e => h (by rw [(dcell_eq_iff.mp e.1).1, Equiv.symm_apply_apply]))]

theorem launch_bar (c : Dev nD) :
    tallyOn (barCell c) (launchCredit (Pipeline.owing (O₀ σ)) 0 (barCell c)) = (tallyAt (barCell c) () 1 : CellTallies nD τ sig Unit) := by
  unfold tallyAt; refine congrArg _ (Finsupp.ext fun u => ?_); cases u
  have h (d : Dev nD) : O₀ σ d (barCell c) () = if d = σ c then 1 else 0 := by
    unfold O₀
    rw [Pi.add_apply, Finsupp.add_apply, oweL_bar, tallyAt_apply, Nat.zero_add]
    by_cases h : d = σ c
    · rw [if_pos h, if_pos ⟨by rw [h, Equiv.symm_apply_apply], rfl⟩]
    · rw [if_neg h, if_neg fun e => h (by rw [bar_eq_iff.mp e.1, Equiv.apply_symm_apply])]
  rw [Pipeline.launchCredit_owing, Finsupp.single_eq_same, Finset.sum_congr rfl fun d _ => h d,
    Finset.sum_ite_eq' Finset.univ (σ c) fun _ => 1, if_pos (Finset.mem_univ _)]

theorem sends_count : ∀ j k : Fin 4, (j.val = 1 ∨ j.val = 3) → sends.count (j, k) = 1 := by decide

theorem launch_dma (c : Dev nD) (j k : Fin 4) (hj : j.val = 1 ∨ j.val = 3) :
    tallyOn (dcell c j k) (launchCredit (Pipeline.owing (O₀ σ)) 0 (dcell c j k)) = (tallyAt (dcell c j k) () (amt j) : CellTallies nD τ sig Unit) := by
  unfold tallyAt; refine congrArg _ (Finsupp.ext fun u => ?_); cases u
  have h (d : Dev nD) : O₀ σ d (dcell c j k) () = if d = σ.symm c then amt j else 0 := by
    unfold O₀
    rw [Pi.add_apply, Finsupp.add_apply, oweL_dma, tallyAt_apply, if_neg (show ¬(dcell c j k = barCell (σ.symm d) ∧ () = ()) from fun e => bar_ne_dcell e.1.symm), Nat.add_zero,
      sends_count j k hj, Nat.mul_one]
  rw [Pipeline.launchCredit_owing, Finsupp.single_eq_same, Finset.sum_congr rfl fun d _ => h d,
    Finset.sum_ite_eq' Finset.univ (σ.symm c) fun _ => amt j, if_pos (Finset.mem_univ _)]

theorem creds_intro (c : Dev nD) : (Pipeline.launchCred (O₀ σ) c : sProp 𝕄) ⊢ creds c := by
  have hs : (Pipeline.launchCred (O₀ σ) c : sProp 𝕄) ⊢ bigSep Finset.univ fun i : Fin 17 =>
      cred (tallyOn (kcell (c, i)) (launchCredit (Pipeline.owing (O₀ σ)) 0 (kcell (c, i)))) := by
    unfold Pipeline.launchCred
    have e : (bigSep Finset.univ fun sm : SemLoc sig => (cred (tallyOn ((c.tc : Thread nD τ), sm) (launchCredit (Pipeline.owing (O₀ σ)) 0 ((c.tc : Thread nD τ), sm))) : sProp 𝕄))
        ⊢ bigSep (Finset.univ.map ⟨csem, csem_injective⟩) fun sm : SemLoc sig => (cred (tallyOn ((c.tc : Thread nD τ), sm) (launchCredit (Pipeline.owing (O₀ σ)) 0 ((c.tc : Thread nD τ), sm))) : sProp 𝕄) :=
      bigSep_subset (Finset.subset_univ _)
    refine e.trans ?_
    rw [bigSep_map]; exact Entails.of_eq rfl
  refine hs.trans ?_
  rw [cells_eq, row_cells (fun g => cred (tallyOn g (launchCredit (Pipeline.owing (O₀ σ)) 0 g))) c 1,
    row_cells (fun g => cred (tallyOn g (launchCredit (Pipeline.owing (O₀ σ)) 0 g))) c 3,
    bigSep_congr (s := Finset.univ) (fun (k : Fin 4) _ => congrArg cred (launch_dma σ c 1 k (Or.inl rfl))),
    bigSep_congr (s := Finset.univ) (fun (k : Fin 4) _ => congrArg cred (launch_dma σ c 3 k (Or.inr rfl)))]
  unfold creds
  iintro ⟨HB, -, H1, -, H3⟩
  isplitl [HB]
  · rw [← launch_bar σ c]; iexact HB
  iapply (Entails.of_eq (bigSep_fin4 (F := F) (fun k => recvCred c k)))
  unfold recvCred
  rw [bigSep_sep']
  isplitl [H1]
  · iexact H1
  · iexact H3

/-! ## The run's side conditions -/

theorem start_intro (c : Dev nD) :
    iprop(Pipeline.unscopedRestP Pipeline.Prefetch.none cfg0.spec c (fun b => m ((c : Thread nD τ).loc b)) ∗ levAts L lv
        ∗ Pipeline.launchCred (O₀ σ) c ∗ prngReg c (ρ c) ∗ G' σ m c)
      ⊢ (|={Set.univ}=> iprop(start σ m c ∗ emp) : sProp 𝕄) := by
  iintro ⟨-, Hlev, Hcr, -, HG⟩
  ihave Hc := (creds_intro (F := F) σ c) $$ Hcr
  imodintro
  unfold start G'
  isplitl
  · isplitl [HG]; · iexact HG
    isplitl [Hc]; · iexact Hc
    iexact Hlev
  · iempintro

theorem phi0_intro (c : Dev nD) :
    iprop(start σ m c ∗ Pipeline.prefHeld Pipeline.Prefetch.none c (fun _ => fullShare.right) (fun k => k.elim0) ∗ Pipeline.scopedRest cfg0.spec c)
      ⊢ (dats σ m 0 c).Φ 0 := by
  rw [show (dats σ m 0 c).Φ 0 = Φ₀ σ m c from rfl, scopedRest0_eq]
  unfold Φ₀ scratch
  simp only [owns_whole_eq]
  iintro ⟨Hs, -, ⟨%f0, H0⟩, ⟨%f1, H1⟩, ⟨%f2, H2⟩, ⟨%f3, H3⟩⟩
  isplitl [Hs]; · iexact Hs
  isplitl [H0]; · (iexists f0; iexists f0; isplitr; · (ipureintro; rfl)); iexact H0
  isplitl [H1]; · (iexists f1; iexists f1; isplitr; · (ipureintro; rfl)); iexact H1
  isplitl [H2]; · (iexists f2; iexists f2; isplitr; · (ipureintro; rfl)); iexact H2
  iexists f3; iexists f3; isplitr; · (ipureintro; rfl)
  iexact H3

theorem phi1_exit (c : Dev nD) :
    (dats σ m 0 c).Φ (Fin.last cfg0.N) ⊢ iprop(unscopedSems0 c ∗ Pipeline.ownSems0 osem c ∗ Pipeline.scopedRest cfg0.spec c) := by
  rw [show (dats σ m 0 c).Φ (Fin.last cfg0.N) = Φ₁ c from rfl, scopedRest0_eq]
  have hz : (zeros c : sProp 𝕄) ⊢ iprop(unscopedSems0 c ∗ Pipeline.ownSems0 osem c) := by
    rw [sems0_eq, cells_eq, row_cells (fun g => semVal g 0) c 0, row_cells (fun g => semVal g 0) c 1,
      row_cells (fun g => semVal g 0) c 2, row_cells (fun g => semVal g 0) c 3]
    unfold zeros sendZero recvZero
    rw [← pair_rows (F := F) (fun k => semVal (dcell c 0 k) 0) (fun k => semVal (dcell c 2 k) 0),
      ← pair_rows (F := F) (fun k => semVal (dcell c 1 k) 0) (fun k => semVal (dcell c 3 k) 0)]
    iintro ⟨HB, ⟨H0, H2⟩, H1, H3⟩
    isplitl [HB]; · iexact HB
    isplitl [H0]; · iexact H0
    isplitl [H1]; · iexact H1
    isplitl [H2] <;> iassumption
  unfold Φ₁ scratch
  simp only [owns_whole_eq]
  iintro ⟨⟨⟨%X0, %f0, %h0, H0⟩, ⟨%X1, %f1, %h1, H1⟩, ⟨%X2, %f2, %h2, H2⟩, ⟨%X3, %f3, %h3, H3⟩⟩, Hz⟩
  ihave Hz' := hz $$ Hz
  icases Hz' with ⟨Hu, Ho⟩
  isplitl [Hu]; · iexact Hu
  isplitl [Ho]; · iexact Ho
  isplitl [H0]; · (iexists f0; iexact H0)
  isplitl [H1]; · (iexists f1; iexact H1)
  isplitl [H2]; · (iexists f2; iexact H2)
  iexists f3; iexact H3

theorem waits (c : Dev nD) : (levAts L lv : sProp 𝕄) ⊢ Pipeline.cellsWaits cfgs (dats σ m) () 0 c :=
  Pipeline.cellsWaits_intro cfgs (dats σ m) () 0 c fun w s t =>
    mayWait_stage σ c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats σ m 0 c).arrAt w cfg0.N

def QC : PUnit × MemSt nD τ sig (Elt F) → Prop := fun r =>
  ∀ c : Dev nD, ∀ w : Fin cfg0.W, r.2.mem ((cfg0.win w).arr.view.loc (c : Thread nD τ)) = finalA σ m c w

set_option maxRecDepth 8000 in
/-- From any memory with zero counters whose table on every device holds the permutation `σ`: every weakly fair
    execution on the four devices ends, with each device's arrays at the computed contents and every semaphore at zero. -/
theorem run_main (hpre : PreOK σ m) : θ_run defs (onTc (τ := τ) (main (F := F))) (s₀ m ρ) (fun r => QC σ m r ∧ r.2.sem = fun _ => 0) :=
  Pipeline.θ_run_region_owing_glob_pf (fun p => (cfgs p).toPCfg) (fun p => (cfgs p).toPCfg_adm) (dats σ m) () cellOf_inj (0 : Fin 1)
    winFacts0.to₀ ownSemFacts (Pipeline.PreFacts.none _) EP defs₀ 𝒱₀ m ρ main
    (hmain := fun _ => rfl)
    (hbody := fun c => body_obligation σ m c hpre) (hne := fun w => by fin_cases w <;> exact Nat.succ_pos _) (harr := arr_whole0) (hstage := stage_whole0) (hshare := share_eq σ m)
    (hdistinct := winFacts0.arr_inj)
    (O₀ := O₀ σ) (howed₀ := fun _ => rfl) (howedN := fun _ => rfl)
    (L := L) (lv := lv) (hL := L_of_ne) (hwaits := waits σ m)
    (G := G σ m) (G' := G' σ m) (u₀ := u₀)
    (hu₀ := by
      unfold u₀
      iintro Hu
      ihave H := (ownU_pair _ _) $$ Hu
      icases H with ⟨HP, HX⟩
      imod (fund_ring σ m) $$ HX with HG
      imodintro
      isplitl [HP] <;> iassumption)
    (hglob := glob σ m)
    (hA := fun _ _ => rfl) (hpf := fun _ k => k.elim0)
    (X := start σ m) (Y := fun c => unscopedSems0 c) (Z := fun _ => iprop(emp))
    (hX := start_intro σ m ρ) (hin := phi0_intro σ m) (hout := phi1_exit σ m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The two argument arrays after the run hold what they held. -/
theorem finalA_x (c : Dev nD) : finalA σ m c (0 : Fin 3) = m ((c : Thread nD τ).loc main_arg0) :=
  (dats (F := F) σ m 0 c).arrAt_in (0 : Fin 3) rfl _
theorem finalA_pi (c : Dev nD) : finalA σ m c (1 : Fin 3) = m ((c : Thread nD τ).loc main_arg1) :=
  (dats (F := F) σ m 0 c).arrAt_in (1 : Fin 3) rfl _

end Cert.KernelIdeal.Wire

end
-- ==== Proof.Quant.lean ====
/-
# The quantiser, one number at a time

An entry `x` of a column is divided by the column's step and rounded to a whole number, the step being the column's
largest magnitude `t` over 127. The kernel multiplies by `127 / t` and converts to eight bits; the reference divides by
`t / 127`, converts to thirty-two bits and drops to eight. On the extended reals the two agree wherever `|x| ≤ t`: the
whole number lies between −127 and 127, so that no conversion clamps or wraps. An infinite `t` makes both zero.
-/
module

public import Idealize.ShloMosaic.PureOps.Ideal
public import Idealize.ShloMosaic.Lib.IdealHost

@[expose] public section

noncomputable section

namespace Cert.Quant

open Idealize.ShloMosaic

/-- The kernel's number: multiplied by `127 / t`, rounded, to eight bits, and back times `t · (1/127)`. -/
def byKernel (x t : EReal) : EReal :=
  (((Ideal.fptosi 8 (Ideal.liftRound Ideal.roundHalfEven (x * Ideal.div ((127 : ℝ) : EReal) t))).toInt : ℝ) : EReal)
    * (t * ((1 / 127 : ℝ) : EReal))

/-- The reference's number: divided by `t / 127`, rounded, to thirty-two bits, to eight, and back times `t / 127`. -/
def byReference (x t : EReal) : EReal :=
  (((((Ideal.fptosi 32 (Ideal.liftRound Ideal.roundHalfEven (Ideal.div x (Ideal.div t ((127 : ℝ) : EReal))))).setWidth 8).signExtend 32).toInt
      : ℝ) : EReal)
    * Ideal.div t ((127 : ℝ) : EReal)

/-- A real between −127 and 127 rounds to a whole number between −127 and 127. -/
theorem round_bounds {z : ℝ} (h₁ : -127 ≤ z) (h₂ : z ≤ 127) :
    -127 ≤ Ideal.roundHalfEven z ∧ Ideal.roundHalfEven z ≤ 127 := by
  have hlo : (-127 : ℤ) ≤ ⌊z⌋ := Int.le_floor.mpr (by push_cast; exact h₁)
  have hhi : ⌊z⌋ ≤ 127 := by
    have : ⌊z⌋ ≤ ⌊(127 : ℝ)⌋ := Int.floor_le_floor h₂
    simpa using this
  by_cases he : ⌊z⌋ = 127
  · have hz : z - (⌊z⌋ : ℝ) < 1 / 2 := by rw [he]; push_cast; linarith
    unfold Ideal.roundHalfEven
    simp only [if_pos hz]
    omega
  · unfold Ideal.roundHalfEven
    dsimp only
    split_ifs <;> omega

theorem toIntClamped_int (lo hi n : ℤ) (h₁ : lo ≤ n) (h₂ : n ≤ hi) : Ideal.toIntClamped lo hi ((n : ℝ) : EReal) = n := by
  show max lo (min hi (if 0 ≤ (n : ℝ) then ⌊(n : ℝ)⌋ else ⌈(n : ℝ)⌉)) = n
  rw [Int.floor_intCast, Int.ceil_intCast, ite_self]
  omega

/-- A small whole number keeps its value in eight bits. -/
theorem toInt_fptosi8 (n : ℤ) (h₁ : -127 ≤ n) (h₂ : n ≤ 127) : (Ideal.fptosi 8 ((n : ℝ) : EReal)).toInt = n := by
  unfold Ideal.fptosi
  rw [toIntClamped_int _ _ n (by norm_num; omega) (by norm_num; omega), BitVec.toInt_ofInt]
  exact Int.bmod_eq_of_le (by norm_num; omega) (by norm_num; omega)

/-- … and through thirty-two bits, dropped to eight and widened again. -/
theorem toInt_through32 (n : ℤ) (h₁ : -127 ≤ n) (h₂ : n ≤ 127) :
    (((Ideal.fptosi 32 ((n : ℝ) : EReal)).setWidth 8).signExtend 32).toInt = n := by
  unfold Ideal.fptosi
  rw [toIntClamped_int _ _ n (by norm_num; omega) (by norm_num; omega), BitVec.toInt_signExtend_of_le (by norm_num),
    BitVec.toInt_setWidth, BitVec.toNat_ofInt]
  rw [show ((n % (2 ^ 32 : ℕ) : ℤ).toNat : ℤ) = n % (2 ^ 32 : ℕ) from Int.toNat_of_nonneg (Int.emod_nonneg _ (by norm_num))]
  rw [Int.bmod_def]
  norm_num
  split_ifs <;> omega

/-- The two quantisers agree on every extended real within the column's largest magnitude. -/
theorem agree (x t : EReal) (ht : 0 < t) (hx : max x (-x) ≤ t) : byKernel x t = byReference x t := by
  unfold byKernel byReference
  have hneg : -t ≤ x := by
    have h := (le_max_right x (-x)).trans hx
    simpa using EReal.neg_le_neg_iff.mpr h
  have hpos : x ≤ t := (le_max_left x (-x)).trans hx
  have hstep : Ideal.div t ((127 : ℝ) : EReal) = t * ((1 / 127 : ℝ) : EReal) := Ideal.div_coe (by norm_num) t
  rw [hstep]
  induction t with
  | bot => exact absurd ht (by simp)
  | top =>
    have h127 : (⊤ : EReal) * ((1 / 127 : ℝ) : EReal) = ⊤ := EReal.top_mul_coe_of_pos (by norm_num)
    rw [h127]
    have hz1 : x * Ideal.div ((127 : ℝ) : EReal) ⊤ = 0 := by
      unfold Ideal.div; rw [if_neg (by simp), EReal.inv_top, mul_zero, mul_zero]
    have hz2 : Ideal.div x ⊤ = 0 := by
      unfold Ideal.div; rw [if_neg (by simp), EReal.inv_top, mul_zero]
    rw [hz1, hz2]
    have hr : Ideal.liftRound Ideal.roundHalfEven 0 = (((0 : ℤ) : ℝ) : EReal) := by
      show ((Ideal.roundHalfEven 0 : ℝ) : EReal) = _
      congr 2
      unfold Ideal.roundHalfEven
      norm_num
    rw [hr, toInt_fptosi8 0 (by norm_num) (by norm_num), toInt_through32 0 (by norm_num) (by norm_num)]
  | coe r =>
    have hr : 0 < r := by exact_mod_cast ht
    induction x with
    | bot => exact absurd hneg (by simp [← EReal.coe_neg])
    | top => exact absurd hpos (by simp)
    | coe y =>
      have hy1 : -r ≤ y := by exact_mod_cast hneg
      have hy2 : y ≤ r := by exact_mod_cast hpos
      have e1 : ((y : ℝ) : EReal) * Ideal.div ((127 : ℝ) : EReal) (r : EReal) = ((y * 127 / r : ℝ) : EReal) := by
        rw [Ideal.div_coe hr.ne', ← EReal.coe_mul, ← EReal.coe_mul]
        congr 1; ring
      have e2 : Ideal.div ((y : ℝ) : EReal) ((r : EReal) * ((1 / 127 : ℝ) : EReal)) = ((y * 127 / r : ℝ) : EReal) := by
        rw [← EReal.coe_mul, Ideal.div_coe (by positivity), ← EReal.coe_mul]
        congr 1; field_simp
      rw [e1, e2]
      have hz1 : -127 ≤ y * 127 / r := by rw [le_div_iff₀ hr]; linarith
      have hz2 : y * 127 / r ≤ 127 := by rw [div_le_iff₀ hr]; linarith
      obtain ⟨b1, b2⟩ := round_bounds hz1 hz2
      show (((Ideal.fptosi 8 ((Ideal.roundHalfEven (y * 127 / r) : ℝ) : EReal)).toInt : ℝ) : EReal) * _
        = (((((Ideal.fptosi 32 ((Ideal.roundHalfEven (y * 127 / r) : ℝ) : EReal)).setWidth 8).signExtend 32).toInt : ℝ) : EReal) * _
      rw [toInt_fptosi8 _ b1 b2, toInt_through32 _ b1 b2]

/-! ## A column -/

/-- The largest magnitude of a column of 256 entries. -/
def colTop (f : Fin 256 → EReal) : EReal := Finset.univ.fold max ⊥ fun r => max (f r) (-f r)

/-- … or one, where the column is all zeros. -/
def colUnit (f : Fin 256 → EReal) : EReal := if 0 < colTop f then colTop f else 1

theorem colUnit_pos (f : Fin 256 → EReal) : 0 < colUnit f := by
  unfold colUnit
  split_ifs with h
  · exact h
  · exact zero_lt_one

theorem le_colUnit (f : Fin 256 → EReal) (r : Fin 256) : max (f r) (-f r) ≤ colUnit f := by
  have h : max (f r) (-f r) ≤ colTop f := (Finset.le_fold_max _).mpr (Or.inr ⟨r, Finset.mem_univ r, le_refl _⟩)
  unfold colUnit
  split_ifs with h0
  · exact h
  · exact h.trans ((not_lt.mp h0).trans zero_le_one)

/-- In every column the two quantisers leave the same numbers. -/
theorem agree_column (f : Fin 256 → EReal) (r : Fin 256) : byKernel (f r) (colUnit f) = byReference (f r) (colUnit f) :=
  agree _ _ (colUnit_pos f) (le_colUnit f r)

/-! ## The two literals -/

/-- The pattern `0x42FE0000` is 127. -/
theorem lit_127 : Ideal.ofBits .f32 0x42FE0000#32 = ((127 : ℝ) : EReal) := by
  simp [Ideal.ofBits, Ideal.ieee, -EReal.coe_mul]; norm_num

/-- The pattern `0xFF800000` is minus infinity. -/
theorem lit_bot : Ideal.ofBits .f32 0xFF800000#32 = ⊥ := by
  simp [Ideal.ofBits, Ideal.ieee]

end Cert.Quant

end
-- ==== Proof.KernelChunk.lean ====
/-
# One chunk of the kernel, entry by entry
-/
module

public import proofs.«01_k».proof.Proof.Quant
public import proofs.«01_k».proof.Proof.Gen.KernelIdeal.Skeleton
public import Idealize.ShloMosaic.Lib.Pointwise.Tactic
public import Idealize.ShloMosaic.Lib.Pointwise

@[expose] public section

noncomputable section

namespace Cert.KernelChunk

open Cert.KernelIdeal Cert.KernelIdeal.Gen Idealize.ShloMosaic

/-- The value of the named constant. -/
theorem named_inv127 : (Named.named (F := Ideal) κ "inv127" 0x3C010204#32 : Ideal .f32) = ((1 / 127 : ℝ) : EReal) :=
  IdealRules.named_const.ideal_named_scalar _ _ _ _ rfl

/-- What a chunk is worth once quantised, sent and multiplied out: each entry the kernel's number in its column. -/
theorem chunk_apply (v : Vec Ideal S1x256x1024 .f32) (r : Fin 256) (l : Fin 1024) :
    k0_pay21 (k0_pay13 v) (k0_pay14 v) (ix3 (0 : Fin 1) r l)
      = Quant.byKernel (v (ix3 (0 : Fin 1) r l)) (Quant.colUnit fun r' => v (ix3 (0 : Fin 1) r' l)) := by
  unfold k0_pay21 k0_pay13 k0_pay14 k0_pay12 k0_pay11
  pointwise
  rw [Quant.lit_127, Quant.lit_bot, named_inv127]
  rfl

end Cert.KernelChunk

end
-- ==== Proof.Argsort.lean ====
/-
# The argsort of a permutation is its inverse

The table `pi` holds a permutation `σ` of the four positions. Sorting it carries the positions along, and the position
that ends at `k` is the one `σ` sends to `k`. What the reference then does to an index — add four where it is negative —
changes nothing, since none is.
-/
module

public import proofs.«01_k».proof.Proof.Gen.ReferenceIdeal
public import Idealize.ShloMosaic.Lib.SortFacts
public import Mathlib.Data.Fintype.Perm

@[expose] public section

noncomputable section

namespace Cert.Argsort

open Cert.ReferenceIdeal Cert.ReferenceIdeal.Gen Idealize.ShloMosaic

/-- A stable sort of the positions by `σ`'s values puts `σ⁻¹ k` at `k`. -/
theorem sorted_perm : ∀ (σ : Fin 4 ≃ Fin 4) (k : Fin 4), sortedFrom (fun a b => decide (σ a < σ b)) k = σ.symm k := by decide +kernel

/-- The comparison of two words of the table is the comparison of the positions they name. -/
theorem before_word : ∀ a b : Fin 4, (IntOp.cmpi .slt (BitVec.ofNat 32 a.val) (BitVec.ofNat 32 b.val) == 1#1) = decide (a < b) := by decide +kernel

/-- The table of `σ`, as words. -/
def table (σ : Fin 4 ≃ Fin 4) : IVec S4 32 := fun i => BitVec.ofNat 32 (σ (i 0)).val

/-- The positions carried along by the sort of the table. -/
theorem sorted_positions (σ : Fin 4 ≃ Fin 4) :
    (Host.sort2 S4 0 comparator_i32_i32_d0 (table σ) (iotaInDim S4 32 0)).2 = table σ.symm := by
  funext j
  have h : (Host.sort2 S4 0 comparator_i32_i32_d0 (table σ) (iotaInDim S4 32 0)).2 j
      = BitVec.ofNat 32 (sortedFrom (fun k k' : Fin 4 => IntOp.cmpi .slt (BitVec.ofNat 32 (σ k).val) (BitVec.ofNat 32 (σ k').val) == 1#1) (show Fin 4 from j 0)).val := rfl
  rw [h]
  have hb : (fun k k' : Fin 4 => IntOp.cmpi .slt (BitVec.ofNat 32 (σ k).val) (BitVec.ofNat 32 (σ k').val) == 1#1)
      = fun k k' => decide (σ k < σ k') := funext fun k => funext fun k' => before_word _ _
  rw [hb, sorted_perm]
  rfl

/-- No word of the table is negative. -/
theorem nonneg_word : ∀ a : Fin 4, IntOp.cmpi .slt (BitVec.ofNat 32 a.val) 0#32 = 0#1 := by decide

/-- The start indices the reference gathers at: the table of `σ⁻¹`, as a column. -/
def column (σ : Fin 4 ≃ Fin 4) : IVec S4x1 32 := fun i => BitVec.ofNat 32 (σ (i 0)).val

theorem starts (σ : Fin 4 ≃ Fin 4) (A : IVec S4 32) (hA : A = table σ) :
    broadcastInDim S4x1 ![0] bcast_S4_S4x1_0 (select (cmpi .slt A (broadcastInDim S4 ![] bcast_S_S4 (constantI S_ 32 0#32)))
      (addi A (broadcastInDim S4 ![] bcast_S_S4 (constantI S_ 32 4#32))) A) = column σ := by
  subst hA
  have h : select (cmpi .slt (table σ) (broadcastInDim S4 ![] bcast_S_S4 (constantI S_ 32 0#32)))
      (addi (table σ) (broadcastInDim S4 ![] bcast_S_S4 (constantI S_ 32 4#32))) (table σ) = table σ := by
    funext j
    show Scalar.select (IntOp.cmpi .slt (table σ j) 0#32) _ _ = table σ j
    unfold table
    rw [nonneg_word]
    rfl
  rw [h]
  rfl

end Cert.Argsort

end
-- ==== Proof.RefValue.lean ====
/-
# The reference's result, entry by entry

The reference views the array as four blocks of four chunks of 256 rows, quantises each column of each chunk, multiplies
back, and takes block `argsort(pi)[d]` for block `d`.
-/
module

public import proofs.«01_k».proof.Proof.Quant
public import proofs.«01_k».proof.Proof.Argsort
public import proofs.«01_k».proof.Proof.Gen.ReferenceIdeal.Run
public import Idealize.ShloMosaic.Lib.Pointwise

@[expose] public section

noncomputable section

namespace Cert.RefValue

open Cert.ReferenceIdeal Cert.ReferenceIdeal.Gen Idealize.ShloMosaic

/-- The array as chunks. -/
def chunks (X : FVec Ideal S4x1024x1024 .f32) : FVec Ideal S4x4x256x1024 .f32 :=
  shapeCast _ X shapeCasts_S4x1024x1024_S4x4x256x1024

/-- The largest magnitude of each column of each chunk. -/
def tops (X : FVec Ideal S4x1024x1024 .f32) : FVec Ideal S4x4x1x1024 .f32 :=
  broadcastInDim S4x4x1x1024 ![0, 1, 3] bcast_S4x4x1024_S4x4x1x1024_0_1_3
    (Host.reduce FloatOps.maximumf (Host.absf (chunks X)) (constant S_ .f32 0xFF800000#32) reducesTo_S4x4x256x1024_S4x4x1024_d2 h_S_)

/-- The columns' steps, over 127. -/
def steps (X : FVec Ideal S4x1024x1024 .f32) : FVec Ideal S4x4x1x1024 .f32 :=
  Host.divf (select (cmpf .ogt (tops X) (broadcastInDim S4x4x1x1024 ![] bcast_S_S4x4x1x1024 (constant S_ .f32 0x00000000#32)))
      (tops X) (broadcastInDim S4x4x1x1024 ![] bcast_S_S4x4x1x1024 (id (constant S_ .f32 0x3F800000#32))))
    (broadcastInDim S4x4x1x1024 ![] bcast_S_S4x4x1x1024 (constant S_ .f32 0x42FE0000#32))

/-- The array quantised and multiplied back. -/
def back (X : FVec Ideal S4x1024x1024 .f32) : FVec Ideal S4x4x256x1024 .f32 :=
  mulf (sitofp .f32 (extsi 32 (trunci 8 (fptosi 32 (Host.roundeven (Host.divf (chunks X)
      (broadcastInDim S4x4x256x1024 ![0, 1, 2, 3] bcast_S4x4x1x1024_S4x4x256x1024_0_1_2_3 (steps X))))) natLt_8_32) natLt_8_32))
    (broadcastInDim S4x4x256x1024 ![0, 1, 2, 3] bcast_S4x4x1x1024_S4x4x256x1024_0_1_2_3 (steps X))

/-- The positions the table sorts to. -/
def sorted (P : IVec S4 32) : IVec S4 32 := (Host.sort2 S4 0 comparator_i32_i32_d0 P (iotaInDim S4 32 0)).2

/-- The reference's result. -/
def out (X : FVec Ideal S4x1024x1024 .f32) (P : IVec S4 32) : FVec Ideal S4x1024x1024 .bf16 :=
  truncf .bf16 (Host.gather gather_S4x1024x1024_S4x1_S4x1024x1024_12_0_n_n_0_1_110241024
    (shapeCast _ (back X) shapeCasts_S4x4x256x1024_S4x1024x1024)
    (broadcastInDim S4x1 ![0] bcast_S4_S4x1_0
      (select (cmpi .slt (sorted P) (broadcastInDim S4 ![] bcast_S_S4 (constantI S_ 32 0#32)))
        (addi (sorted P) (broadcastInDim S4 ![] bcast_S_S4 (constantI S_ 32 4#32))) (sorted P)))) bitsLt_bf16_f32

/-- Row `256·k + r`. -/
def row (k : Fin 4) (r : Fin 256) : Fin 1024 := ⟨256 * k.val + r.val, by have := k.isLt; have := r.isLt; omega⟩

theorem row_mk (k : Fin 4) (r : Fin 256) (h : k.val * 256 + r.val < 1024) : (⟨k.val * 256 + r.val, h⟩ : Fin 1024) = row k r :=
  Fin.ext (by show k.val * 256 + r.val = 256 * k.val + r.val; omega)

theorem row_div (k : Fin 4) (r : Fin 256) : (row k r).val / 256 = k.val := by
  have := r.isLt
  show (256 * k.val + r.val) / 256 = k.val
  omega

theorem row_mod (k : Fin 4) (r : Fin 256) : (row k r).val % 256 = r.val := by
  have := r.isLt
  show (256 * k.val + r.val) % 256 = r.val
  omega

theorem chunks_apply (X : FVec Ideal S4x1024x1024 .f32) (e k : Fin 4) (r : Fin 256) (l : Fin 1024) :
    chunks X (ix4 e k r l) = X (ix3 e (row k r) l) := by
  unfold chunks
  pointwise
  rw [row_mk]

theorem tops_apply (X : FVec Ideal S4x1024x1024 .f32) (e k : Fin 4) (l : Fin 1024) :
    tops X (ix4 e k (0 : Fin 1) l) = Quant.colTop fun r => X (ix3 e (row k r) l) := by
  unfold tops
  pointwise
  rw [Quant.lit_bot]
  simp only [chunks_apply]
  rfl

/-- A choice by a comparison of two extended reals. -/
theorem select_ogt (a b x y : EReal) : Scalar.select (Ideal.cmp .ogt a b) x y = if b < a then x else y := by
  unfold Scalar.select Ideal.cmp
  by_cases h : b < a <;> simp [h]

/-- The steps at an index, over any float values. -/
theorem steps_entry {F : FTy → Type} [FloatOps F] (T : FVec F S4x4x1x1024 .f32) (j : S4x4x1x1024.Idx) :
    Host.divf (select (cmpf .ogt T (broadcastInDim S4x4x1x1024 ![] bcast_S_S4x4x1x1024 (constant S_ .f32 0x00000000#32)))
        T (broadcastInDim S4x4x1x1024 ![] bcast_S_S4x4x1x1024 (id (constant S_ .f32 0x3F800000#32))))
      (broadcastInDim S4x4x1x1024 ![] bcast_S_S4x4x1x1024 (constant S_ .f32 0x42FE0000#32)) j
      = FloatOps.hostDivf (Scalar.select (FloatOps.cmpf .ogt (T j) (FloatOps.ofBits .f32 0x00000000#32)) (T j)
          (FloatOps.ofBits .f32 0x3F800000#32)) (FloatOps.ofBits .f32 0x42FE0000#32) := rfl

theorem steps_apply (X : FVec Ideal S4x1024x1024 .f32) (e k : Fin 4) (l : Fin 1024) :
    steps X (ix4 e k (0 : Fin 1) l) = Ideal.div (Quant.colUnit fun r => X (ix3 e (row k r) l)) ((127 : ℝ) : EReal) := by
  unfold steps
  rw [steps_entry, tops_apply]
  rw [Ideal.hostDivf_def, Ideal.ofBits_def, Ideal.ofBits_def, Ideal.ofBits_def, Quant.lit_127, Ideal.ofBits_zero_f32, Ideal.ofBits_one_f32]
  rw [show FloatOps.cmpf (F := Ideal) (φ := .f32) .ogt (Quant.colTop fun r => X (ix3 e (row k r) l)) 0
    = Ideal.cmp .ogt (Quant.colTop fun r => X (ix3 e (row k r) l)) 0 from rfl, select_ogt]
  rfl

theorem back_apply (X : FVec Ideal S4x1024x1024 .f32) (e k : Fin 4) (r : Fin 256) (l : Fin 1024) :
    back X (ix4 e k r l)
      = Quant.byReference (X (ix3 e (row k r) l)) (Quant.colUnit fun r' => X (ix3 e (row k r') l)) := by
  unfold back
  pointwise
  rw [chunks_apply, steps_apply]
  rfl

theorem cast_back_apply (Y : FVec Ideal S4x4x256x1024 .f32) (e k : Fin 4) (r : Fin 256) (l : Fin 1024) :
    shapeCast S4x1024x1024 Y shapeCasts_S4x4x256x1024_S4x1024x1024 (ix3 e (row k r) l) = Y (ix4 e k r l) := by
  pointwise
  congr 2
  · exact Fin.ext (row_div k r)
  · exact Fin.ext (row_mod k r)

/-- A word of the table, read as a signed number and held to the four blocks, is the position it names. -/
theorem clamp_word : ∀ a : Fin 4, min (BitVec.ofNat 32 a.val).toInt.toNat 3 = a.val := by decide

/-- The gather's dimension numbers: blocks taken whole. -/
abbrev GD : GatherDims S4x1024x1024 S4x1 S4x1024x1024 := gather_S4x1024x1024_S4x1_S4x1024x1024_12_0_n_n_0_1_110241024

/-- The gather takes block `σ d` for block `d` where the start indices are `σ`. -/
theorem gather_apply (σ : Fin 4 ≃ Fin 4) (Y : FVec Ideal S4x1024x1024 .f32) (d : Fin 4) (R l : Fin 1024) :
    Host.gather GD Y (Argsort.column σ) (ix3 d R l) = Y (ix3 (σ d) R l) := by
  unfold Host.gather
  congr 1
  funext a
  refine Fin.ext ?_
  show GatherDims.start GD (ix3 d R l) (Argsort.column σ) a + GatherDims.batchCoord GD (ix3 d R l) a
      + GatherDims.offCoord GD (ix3 d R l) a = _
  rw [GatherDims.batchCoord_eq_zero _ _ _ (show a ∉ (GD).operandBatchingDims from List.not_mem_nil)]
  have h3 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h3 with rfl | rfl | rfl
  · rw [GatherDims.offCoord_eq_zero _ _ _ (fun h => ((GatherDims.mem_sKept _ _).mp h).1 (List.mem_singleton.mpr rfl))]
    unfold GatherDims.start
    rw [dif_pos (show (0 : Fin 3) ∈ (GD).startIndexMap from List.mem_singleton.mpr rfl)]
    exact clamp_word (σ d)
  · have hs : GatherDims.start GD (ix3 d R l) (Argsort.column σ) 1 = 0 := by
      unfold GatherDims.start
      rw [dif_neg (show ¬ (1 : Fin 3) ∈ (GD).startIndexMap from fun h => absurd (List.mem_singleton.mp h) (by decide))]
    rw [hs]
    unfold GatherDims.offCoord
    rw [dif_pos ((GatherDims.mem_sKept _ _).mpr ⟨fun h => absurd (List.mem_singleton.mp h) (by decide), List.not_mem_nil⟩)]
    simp only [Nat.zero_add, Nat.add_zero]
    rfl
  · have hs : GatherDims.start GD (ix3 d R l) (Argsort.column σ) 2 = 0 := by
      unfold GatherDims.start
      rw [dif_neg (show ¬ (2 : Fin 3) ∈ (GD).startIndexMap from fun h => absurd (List.mem_singleton.mp h) (by decide))]
    rw [hs]
    unfold GatherDims.offCoord
    rw [dif_pos ((GatherDims.mem_sKept _ _).mpr ⟨fun h => absurd (List.mem_singleton.mp h) (by decide), List.not_mem_nil⟩)]
    simp only [Nat.zero_add, Nat.add_zero]
    rfl

/-- Block `d` of the result, entry by entry: the reference's number of the entry of block `σ⁻¹ d`. -/
theorem out_apply (X : FVec Ideal S4x1024x1024 .f32) (σ : Fin 4 ≃ Fin 4) (d k : Fin 4) (r : Fin 256) (l : Fin 1024) :
    out X (Argsort.table σ) (ix3 d (row k r) l)
      = Quant.byReference (X (ix3 (σ.symm d) (row k r) l)) (Quant.colUnit fun r' => X (ix3 (σ.symm d) (row k r') l)) := by
  unfold out
  rw [Argsort.starts σ.symm (sorted (Argsort.table σ)) (Argsort.sorted_positions σ)]
  unfold truncf
  rw [Ideal.truncf_def, gather_apply, cast_back_apply, back_apply]

end Cert.RefValue

end
-- ==== Proof.Value.lean ====
/-
# The exchanged array is the reference's

What device `c` ends with is chunk by chunk the product it received from device `σ⁻¹ c`; read at an entry it is the
kernel's number of that device's entry, which is the reference's number; and that is what block `c` of the reference's
result holds.
-/
module

public import proofs.«01_k».proof.Proof.IdealLaunch
public import proofs.«01_k».proof.Proof.KernelChunk
public import proofs.«01_k».proof.Proof.RefValue
public import Idealize.ShloMosaic.Lib.Layout
public import Idealize.ShloMosaic.Lib.Pipeline.ValueKit.Geometry

@[expose] public section

noncomputable section

namespace Cert.KernelIdeal.Wire

open Cert.KernelIdeal Cert.KernelIdeal.Gen Idealize.ShloMosaic Idealize.ShloMosaic.TcCoe

variable (σ : Dev nD ≃ Dev nD) (m : (ℓ : Loc nD τ sig) → Buf (Elt Ideal) ℓ)

/-- The result array after the run is what the body left. -/
theorem finalA_out (c : Dev nD) : finalA σ m c (2 : Fin 3) = outAt σ m c :=
  (dats (F := Ideal) σ m 0 c).arrAt_eq_of_after_last (2 : Fin 3) t0_0 (by decide +kernel) (outAt σ m c) (fun j => rfl)

/-- Every index of a block is a row of a chunk. -/
theorem emb_row (k : Fin 4) (r : Fin 256) (l : Fin 1024) :
    (rX k).emb (ix3 (0 : Fin 1) r l) = ix3 (0 : Fin 1) (RefValue.row k r) l := by
  funext a
  refine Fin.ext ((ValueKit.rect_emb_unit_val _ _ _ _ a).trans ?_)
  match a with
  | ⟨0, _⟩ => rfl
  | ⟨1, _⟩ => rfl
  | ⟨2, _⟩ => exact Nat.zero_add _

/-- What is staged of the first argument is the whole of it. -/
theorem xstg_eq (c : Dev nD) : xstg m c = m ((c : Thread nD τ).loc main_arg0) := by
  unfold xstg
  funext i
  refine congrArg (m ((c : Thread nD τ).loc main_arg0)) (funext fun a => Fin.ext ?_)
  refine (ValueKit.view_emb_slice_whole_unit_val _ _ _ _ _ _).trans ?_
  match a with
  | ⟨0, _⟩ => exact Nat.zero_add _
  | ⟨1, _⟩ => exact Nat.zero_add _
  | ⟨2, _⟩ => exact Nat.zero_add _

/-- An entry of a staged chunk is the entry of the argument array. -/
theorem xc_apply (c : Dev nD) (k : Fin 4) (r : Fin 256) (l : Fin 1024) :
    xc m c k (ix3 (0 : Fin 1) r l) = m ((c : Thread nD τ).loc main_arg0) (ix3 (0 : Fin 1) (RefValue.row k r) l) := by
  have h : xc m c k (ix3 (0 : Fin 1) r l) = xstg m c ((rX k).emb (ix3 (0 : Fin 1) r l)) := rfl
  rw [h, emb_row, xstg_eq]

theorem exists_row (i : S1x1024x1024.Idx) : ∃ (k : Fin 4) (r : Fin 256) (l : Fin 1024), i = ix3 (0 : Fin 1) (RefValue.row k r) l := by
  have h1 : (i 1).val < 1024 := (i 1).isLt
  refine ⟨⟨(i 1).val / 256, by omega⟩, ⟨(i 1).val % 256, Nat.mod_lt _ (by norm_num)⟩, i 2, ?_⟩
  funext a
  refine Fin.ext ?_
  match a with
  | ⟨0, _⟩ => have h0 : (i 0).val < 1 := (i 0).isLt; exact Nat.lt_one_iff.mp h0
  | ⟨1, _⟩ => exact (Nat.div_add_mod (i 1).val 256).symm
  | ⟨2, _⟩ => rfl

/-- An entry of block `c` of the whole array. -/
theorem block_row {α : Type} (v : (⟨3, ![4, 1024, 1024]⟩ : Shape).Idx → α) (h : Layout.Tiles ⟨3, ![1, 1024, 1024]⟩ ⟨3, ![4, 1024, 1024]⟩ 0 4) (c : Fin 4) (R l : Fin 1024) :
    Layout.block ⟨3, ![1, 1024, 1024]⟩ ⟨3, ![4, 1024, 1024]⟩ 0 4 c v h (ix3 (0 : Fin 1) R l) = v (ix3 c R l) := by
  rw [Layout.block_apply]
  congr 1
  funext a
  refine Fin.ext ?_
  rw [Layout.Tiles.idx_val]
  match a with
  | ⟨0, _⟩ => simp
  | ⟨1, _⟩ => simp
  | ⟨2, _⟩ => simp

/-- Device `c`'s result is block `c` of the reference's. -/
theorem outAt_block (X : (⟨3, ![4, 1024, 1024]⟩ : Shape).Idx → Elt Ideal .f32)
    (hX : ∀ c : Dev nD, m ((c : Thread nD τ).loc main_arg0) = Layout.block ⟨3, ![1, 1024, 1024]⟩ ⟨3, ![4, 1024, 1024]⟩ 0 4 c X) (c : Dev nD) :
    outAt σ m c = Layout.block ⟨3, ![1, 1024, 1024]⟩ ⟨3, ![4, 1024, 1024]⟩ 0 4 c (RefValue.out X (Argsort.table σ)) := by
  funext i
  obtain ⟨k, r, l, rfl⟩ := exists_row i
  have hx : ∀ r' : Fin 256, xc m (σ.symm c) k (ix3 (0 : Fin 1) r' l) = X (ix3 (σ.symm c) (RefValue.row k r') l) := fun r' => by
    rw [xc_apply, hX, block_row]
  have h1 := outAt_emb σ m c k (ix3 (0 : Fin 1) r l)
  rw [emb_row] at h1
  rw [h1]
  unfold oC qC sC
  rw [KernelChunk.chunk_apply, block_row, RefValue.out_apply, ← Quant.agree_column (fun r' => X (ix3 (σ.symm c) (RefValue.row k r') l)) r]
  simp only [hx]

end Cert.KernelIdeal.Wire

end
-- ==== Proof.Tables.lean ====
/-
# A table found equal to a permutation's

The precondition compares the table with four numbers, entry by entry, and holds where every entry is equal. So on every
device the table is a permutation `σ`'s, and that is what the exchange asks of it. The frames of the two kernels, the
frame of the reference and the agreement of the kernel's result with the reference's follow for any `σ`.
-/
module

public import proofs.«01_k».proof.Proof.KernelLaunch
public import proofs.«01_k».proof.Proof.Value
public import proofs.«01_k».proof.Proof.Gen.ReferenceIdeal.Run
public import Idealize.ShloMosaic.Lib.WordCmp
public import Idealize.ShloMosaic.Lib.QuiescentFlight

@[expose] public section

noncomputable section

namespace Cert.Tables

open Idealize.ShloMosaic Idealize.SL.Sem Idealize.ShloMosaic.TcCoe

/-- Where the comparison is all ones the compared table is the permutation's. -/
theorem table_of_ones (σ : Fin 4 ≃ Fin 4) (lit : Fin 4 → BitVec 32) (hlit : ∀ k, lit k = BitVec.ofNat 32 (σ k).val)
    (P : IVec (⟨1, ![4]⟩ : Shape) 32)
    (h : cmpi .eq P (fun i => lit ((⟨1, ![4]⟩ : Shape).rowMajor i)) = fun _ => 1#1) : P = Argsort.table σ := by
  funext i
  have hi : IntOp.cmpi .eq (P i) (lit ((⟨1, ![4]⟩ : Shape).rowMajor i)) = 1#1 := congrFun h i
  rw [WordCmp.cmpi_eq_eq] at hi
  have he : P i = lit ((⟨1, ![4]⟩ : Shape).rowMajor i) := by
    by_contra hne
    rw [decide_eq_false hne] at hi
    exact absurd hi (by decide)
  have hr : (⟨1, ![4]⟩ : Shape).rowMajor i = (show Fin 4 from i 0) := by
    exact Fin.ext (Shape.rowMajor_val_one i)
  rw [he, hr, hlit]
  rfl

/-- The four numbers of a table are device numbers, no two of them equal. -/
def Permutes (lit : Fin 4 → BitVec 32) : Prop := (∀ k, (lit k).toNat < 4) ∧ ∀ a b, lit a = lit b → a = b

instance (lit : Fin 4 → BitVec 32) : Decidable (Permutes lit) := inferInstanceAs (Decidable (_ ∧ _))

/-- Such a table is that of a permutation. -/
theorem Permutes.exists_equiv {lit : Fin 4 → BitVec 32} (h : Permutes lit) : ∃ σ : Fin 4 ≃ Fin 4, ∀ k, lit k = BitVec.ofNat 32 (σ k).val := by
  let f : Fin 4 → Fin 4 := fun k => ⟨(lit k).toNat, h.1 k⟩
  have hf : Function.Injective f := fun a b hab => h.2 a b (BitVec.eq_of_toNat_eq (Fin.mk.inj hab))
  exact ⟨Equiv.ofBijective f (Finite.injective_iff_bijective.mp hf), fun k => BitVec.eq_of_toNat_eq (by simp [f])⟩

/-- Where the comparison with such a table is all ones on every device, every device holds one permutation's table. -/
theorem Permutes.exists_table {lit : Fin 4 → BitVec 32} (h : Permutes lit) {n : ℕ} {P : Fin n → IVec (⟨1, ![4]⟩ : Shape) 32}
    (hP : ∀ c, cmpi .eq (P c) (fun i => lit ((⟨1, ![4]⟩ : Shape).rowMajor i)) = fun _ => 1#1) :
    ∃ σ : Fin 4 ≃ Fin 4, ∀ c, P c = Argsort.table σ :=
  let ⟨σ, hσ⟩ := h.exists_equiv
  ⟨σ, fun c => table_of_ones σ lit hσ (P c) (hP c)⟩

section Kernel

open Cert.Kernel Cert.Kernel.Gen Cert.Kernel.Wire

variable {F : FTy → Type} [FloatOps F] (σ : Fin 4 ≃ Fin 4) (m : (ℓ : Loc nD τ sig) → Buf (Elt F) ℓ) (ρ : Dev nD → PrngReg)

theorem kernel_ok (h : ∀ c : Dev nD, m ((c : Thread nD τ).loc main_arg1) = Argsort.table σ) : PreOK (F := F) σ m := fun c i => by
  have hi : pstg m c i = m ((c : Thread nD τ).loc main_arg1) i := by
    refine congrArg (m ((c : Thread nD τ).loc main_arg1)) (funext fun a => Fin.ext ?_)
    refine (ValueKit.view_emb_slice_whole_unit_val _ _ _ _ _ _).trans ?_
    match a with
    | ⟨0, _⟩ => exact Nat.zero_add _
  rw [hi, h]
  rfl

/-- The kernel ends with its arguments as they were and every semaphore at zero. -/
theorem kernel_frame (h : ∀ c : Dev nD, m ((c : Thread nD τ).loc main_arg1) = Argsort.table σ) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ hr => ⟨fun c => ⟨(hr.1 c (0 : Fin 3)).trans (finalA_x σ m c), (hr.1 c (1 : Fin 3)).trans (finalA_pi σ m c)⟩, hr.2⟩)
    (run_main σ m ρ (kernel_ok σ m h))

end Kernel

section KernelIdeal

open Cert.KernelIdeal Cert.KernelIdeal.Gen Cert.KernelIdeal.Wire

variable (σ : Fin 4 ≃ Fin 4) (m : (ℓ : Loc nD τ sig) → Buf (Elt Ideal) ℓ) (ρ : Dev nD → PrngReg)

theorem ideal_ok (h : ∀ c : Dev nD, m ((c : Thread nD τ).loc main_arg1) = Argsort.table σ) : PreOK (F := Ideal) σ m := fun c i => by
  have hi : pstg m c i = m ((c : Thread nD τ).loc main_arg1) i := by
    refine congrArg (m ((c : Thread nD τ).loc main_arg1)) (funext fun a => Fin.ext ?_)
    refine (ValueKit.view_emb_slice_whole_unit_val _ _ _ _ _ _).trans ?_
    match a with
    | ⟨0, _⟩ => exact Nat.zero_add _
  rw [hi, h]
  rfl

/-- The idealized kernel ends with its arguments as they were and every semaphore at zero. -/
theorem ideal_frame (h : ∀ c : Dev nD, m ((c : Thread nD τ).loc main_arg1) = Argsort.table σ) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ hr => ⟨fun c => ⟨(hr.1 c (0 : Fin 3)).trans (finalA_x σ m c), (hr.1 c (1 : Fin 3)).trans (finalA_pi σ m c)⟩, hr.2⟩)
    (run_main σ m ρ (ideal_ok σ m h))

/-- The idealized kernel's results are the blocks of the reference's array. -/
theorem ideal_value (X : (⟨3, ![4, 1024, 1024]⟩ : Shape).Idx → Elt Ideal .f32)
    (h : ∀ c : Dev nD, m ((c : Thread nD τ).loc main_arg1) = Argsort.table σ)
    (hX : ∀ c : Dev nD, m ((c : Thread nD τ).loc main_arg0) = Layout.block ⟨3, ![1, 1024, 1024]⟩ ⟨3, ![4, 1024, 1024]⟩ 0 4 c X) :
    θ_run (defs (F := Ideal)) (onTc (τ := τ) (main (F := Ideal))) ⟨m, fun _ => 0, ρ⟩ (fun r => ∀ c : Dev nD,
      r.2.mem ((c.tc : Thread nD τ).loc main_v1) = Layout.block ⟨3, ![1, 1024, 1024]⟩ ⟨3, ![4, 1024, 1024]⟩ 0 4 c (RefValue.out X (Argsort.table σ))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ hr c => ⟨((hr.1 c (2 : Fin 3)).trans (finalA_out σ m c)).trans (outAt_block σ m X hX c),
      (hr.1 c (0 : Fin 3)).trans (finalA_x σ m c), (hr.1 c (1 : Fin 3)).trans (finalA_pi σ m c)⟩)
    (run_main σ m ρ (ideal_ok σ m h))

end KernelIdeal

section ReferenceIdeal

open Cert.ReferenceIdeal Cert.ReferenceIdeal.Gen

variable (m : (ℓ : Loc nD τ sig) → Buf (Elt Ideal) ℓ) (ρ : Dev nD → PrngReg)

/-- The reference ends with its arguments as they were; it has no semaphore. -/
theorem reference_frame :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c => (h c).2, sem_eq_zero_of_no_sems (by decide) r.2⟩) (Cert.ReferenceIdeal.Value.run (F := Ideal) m ρ)

/-- The reference's result. -/
theorem reference_value :
    θ_run (defs (F := Ideal)) (onTc (τ := τ) (main (F := Ideal))) ⟨m, fun _ => 0, ρ⟩ (fun r =>
      r.2.mem (((0 : Dev nD).tc : Thread nD τ).loc main_v27)
          = RefValue.out (m (((0 : Dev nD).tc : Thread nD τ).loc main_arg0)) (m (((0 : Dev nD).tc : Thread nD τ).loc main_arg1))
      ∧ r.2.mem (((0 : Dev nD).tc : Thread nD τ).loc main_arg0) = m (((0 : Dev nD).tc : Thread nD τ).loc main_arg0)
      ∧ r.2.mem (((0 : Dev nD).tc : Thread nD τ).loc main_arg1) = m (((0 : Dev nD).tc : Thread nD τ).loc main_arg1)) :=
  (θ_run defs _ _).mono (fun _ h => h 0) (Cert.ReferenceIdeal.Value.run (F := Ideal) m ρ)

end ReferenceIdeal

end Cert.Tables

end
-- ==== Proof.lean ====
/-
# The int8 permute kernel: the claims

Each claim about the kernel is made 24 times, once for every table `pi` that is a permutation of the four devices. It is
one statement about a table whose four numbers are the device numbers in some order (`kernel_frame`, `ideal_frame`,
`agree`), taken at the 24 tables.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Tables
public import Idealize.ShloMosaic.Adequacy
public import Idealize.ShloMosaic.Init

@[expose] public section

noncomputable section

namespace Cert.Proof

open Idealize.ShloMosaic Idealize.SL.Sem

/-- The kernel ends with its arguments as they were and every semaphore at zero, where each device's `pi` is the table. -/
theorem kernel_frame {lit : Fin 4 → BitVec 32} (hl : Tables.Permutes lit) (m : (ℓ : Loc Cert.Kernel.nD Cert.Kernel.τ Cert.Kernel.sig) → Buf (Elt Bits) ℓ) (g : Dev Cert.Kernel.nD → PrngReg)
    (h : ∀ c : Dev Cert.Kernel.nD, cmpi .eq (m ((c.tc : Thread Cert.Kernel.nD Cert.Kernel.τ).loc Cert.Kernel.main_arg1)) (fun i => lit ((⟨1, ![4]⟩ : Shape).rowMajor i)) = fun _ => 1#1) :
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)) ∧ r.2.sem = fun _ => 0) :=
  let ⟨σ, hσ⟩ := hl.exists_table h
  Tables.kernel_frame σ m g hσ

/-- The idealized kernel ends with its arguments as they were and every semaphore at zero, where each device's `pi` is the table. -/
theorem ideal_frame {lit : Fin 4 → BitVec 32} (hl : Tables.Permutes lit) (m : (ℓ : Loc Cert.KernelIdeal.nD Cert.KernelIdeal.τ Cert.KernelIdeal.sig) → Buf (Elt Ideal) ℓ) (g : Dev Cert.KernelIdeal.nD → PrngReg)
    (h : ∀ c : Dev Cert.KernelIdeal.nD, cmpi .eq (m ((c.tc : Thread Cert.KernelIdeal.nD Cert.KernelIdeal.τ).loc Cert.KernelIdeal.main_arg1)) (fun i => lit ((⟨1, ![4]⟩ : Shape).rowMajor i)) = fun _ => 1#1) :
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)) ∧ r.2.sem = fun _ => 0) :=
  let ⟨σ, hσ⟩ := hl.exists_table h
  Tables.ideal_frame σ m g hσ

/-- The idealized kernel and the reference end with the same array, where each device's `pi` is the table. -/
theorem agree {lit : Fin 4 → BitVec 32} (hl : Tables.Permutes lit) (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg)
    (h : ∀ c : Dev Cert.KernelIdeal.nD, cmpi .eq (m ((c.tc : Thread Cert.KernelIdeal.nD Cert.KernelIdeal.τ).loc Cert.KernelIdeal.main_arg1)) (fun i => lit ((⟨1, ![4]⟩ : Shape).rowMajor i)) = fun _ => 1#1)
    (hag : ∀ c : Dev Cert.KernelIdeal.nD,
      m ((c.tc : Thread Cert.KernelIdeal.nD Cert.KernelIdeal.τ).loc Cert.KernelIdeal.main_arg0) = Layout.block ⟨3, ![1, 1024, 1024]⟩ ⟨3, ![4, 1024, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) :
    ∃ (v0 : Buf (Elt Ideal) (((0 : Dev Cert.ReferenceIdeal.nD).tc : Thread Cert.ReferenceIdeal.nD Cert.ReferenceIdeal.τ).loc Cert.ReferenceIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 1024, 1024]⟩ ⟨3, ![4, 1024, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v27) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)) := by
  obtain ⟨σ, hpi⟩ := hl.exists_table h
  have hpi' : m' (((0 : Dev Cert.ReferenceIdeal.nD).tc : Thread Cert.ReferenceIdeal.nD Cert.ReferenceIdeal.τ).loc Cert.ReferenceIdeal.main_arg1) = Argsort.table σ :=
    (hag 0).2.symm.trans (hpi 0)
  refine ⟨_, Tables.ideal_value σ m g _ hpi (fun c => (hag c).1), ?_⟩
  have hr := Tables.reference_value m' g'
  rw [hpi'] at hr
  rw [hpi']
  exact hr

theorem claim : Cert.Claim :=
  ⟨Cert.Kernel.Gen.facts, Cert.KernelIdeal.Gen.facts, Cert.ReferenceIdeal.Gen.facts,
    ⟨⟩, ⟨⟩, ⟨⟩, ⟨⟩, ⟨⟩, ⟨⟩, ⟨⟩, ⟨⟩, ⟨⟩, ⟨⟩, ⟨⟩, ⟨⟩,
    ⟨⟩, ⟨⟩, ⟨⟩, ⟨⟩, ⟨⟩, ⟨⟩, ⟨⟩, ⟨⟩, ⟨⟩, ⟨⟩, ⟨⟩, ⟨⟩,
    ⟨⟩, ⟨⟩, ⟨⟩, ⟨⟩, ⟨⟩, ⟨⟩, ⟨⟩, ⟨⟩, ⟨⟩, ⟨⟩, ⟨⟩, ⟨⟩,
    ⟨⟩, ⟨⟩, ⟨⟩, ⟨⟩, ⟨⟩, ⟨⟩, ⟨⟩, ⟨⟩, ⟨⟩, ⟨⟩, ⟨⟩, ⟨⟩,
    kernel_frame (lit := Cert.Pre_pi_is_0123_Kernel.lit0) (by decide),
    kernel_frame (lit := Cert.Pre_pi_is_0132_Kernel.lit0) (by decide),
    kernel_frame (lit := Cert.Pre_pi_is_0213_Kernel.lit0) (by decide),
    kernel_frame (lit := Cert.Pre_pi_is_0231_Kernel.lit0) (by decide),
    kernel_frame (lit := Cert.Pre_pi_is_0312_Kernel.lit0) (by decide),
    kernel_frame (lit := Cert.Pre_pi_is_0321_Kernel.lit0) (by decide),
    kernel_frame (lit := Cert.Pre_pi_is_1023_Kernel.lit0) (by decide),
    kernel_frame (lit := Cert.Pre_pi_is_1032_Kernel.lit0) (by decide),
    kernel_frame (lit := Cert.Pre_pi_is_1203_Kernel.lit0) (by decide),
    kernel_frame (lit := Cert.Pre_pi_is_1230_Kernel.lit0) (by decide),
    kernel_frame (lit := Cert.Pre_pi_is_1302_Kernel.lit0) (by decide),
    kernel_frame (lit := Cert.Pre_pi_is_1320_Kernel.lit0) (by decide),
    kernel_frame (lit := Cert.Pre_pi_is_2013_Kernel.lit0) (by decide),
    kernel_frame (lit := Cert.Pre_pi_is_2031_Kernel.lit0) (by decide),
    kernel_frame (lit := Cert.Pre_pi_is_2103_Kernel.lit0) (by decide),
    kernel_frame (lit := Cert.Pre_pi_is_2130_Kernel.lit0) (by decide),
    kernel_frame (lit := Cert.Pre_pi_is_2301_Kernel.lit0) (by decide),
    kernel_frame (lit := Cert.Pre_pi_is_2310_Kernel.lit0) (by decide),
    kernel_frame (lit := Cert.Pre_pi_is_3012_Kernel.lit0) (by decide),
    kernel_frame (lit := Cert.Pre_pi_is_3021_Kernel.lit0) (by decide),
    kernel_frame (lit := Cert.Pre_pi_is_3102_Kernel.lit0) (by decide),
    kernel_frame (lit := Cert.Pre_pi_is_3120_Kernel.lit0) (by decide),
    kernel_frame (lit := Cert.Pre_pi_is_3201_Kernel.lit0) (by decide),
    kernel_frame (lit := Cert.Pre_pi_is_3210_Kernel.lit0) (by decide),
    ideal_frame (lit := Cert.Pre_pi_is_0123_Kernel.lit0) (by decide),
    ideal_frame (lit := Cert.Pre_pi_is_0132_Kernel.lit0) (by decide),
    ideal_frame (lit := Cert.Pre_pi_is_0213_Kernel.lit0) (by decide),
    ideal_frame (lit := Cert.Pre_pi_is_0231_Kernel.lit0) (by decide),
    ideal_frame (lit := Cert.Pre_pi_is_0312_Kernel.lit0) (by decide),
    ideal_frame (lit := Cert.Pre_pi_is_0321_Kernel.lit0) (by decide),
    ideal_frame (lit := Cert.Pre_pi_is_1023_Kernel.lit0) (by decide),
    ideal_frame (lit := Cert.Pre_pi_is_1032_Kernel.lit0) (by decide),
    ideal_frame (lit := Cert.Pre_pi_is_1203_Kernel.lit0) (by decide),
    ideal_frame (lit := Cert.Pre_pi_is_1230_Kernel.lit0) (by decide),
    ideal_frame (lit := Cert.Pre_pi_is_1302_Kernel.lit0) (by decide),
    ideal_frame (lit := Cert.Pre_pi_is_1320_Kernel.lit0) (by decide),
    ideal_frame (lit := Cert.Pre_pi_is_2013_Kernel.lit0) (by decide),
    ideal_frame (lit := Cert.Pre_pi_is_2031_Kernel.lit0) (by decide),
    ideal_frame (lit := Cert.Pre_pi_is_2103_Kernel.lit0) (by decide),
    ideal_frame (lit := Cert.Pre_pi_is_2130_Kernel.lit0) (by decide),
    ideal_frame (lit := Cert.Pre_pi_is_2301_Kernel.lit0) (by decide),
    ideal_frame (lit := Cert.Pre_pi_is_2310_Kernel.lit0) (by decide),
    ideal_frame (lit := Cert.Pre_pi_is_3012_Kernel.lit0) (by decide),
    ideal_frame (lit := Cert.Pre_pi_is_3021_Kernel.lit0) (by decide),
    ideal_frame (lit := Cert.Pre_pi_is_3102_Kernel.lit0) (by decide),
    ideal_frame (lit := Cert.Pre_pi_is_3120_Kernel.lit0) (by decide),
    ideal_frame (lit := Cert.Pre_pi_is_3201_Kernel.lit0) (by decide),
    ideal_frame (lit := Cert.Pre_pi_is_3210_Kernel.lit0) (by decide),
    fun m g _ => Tables.reference_frame m g,
    fun m g _ => Tables.reference_frame m g,
    fun m g _ => Tables.reference_frame m g,
    fun m g _ => Tables.reference_frame m g,
    fun m g _ => Tables.reference_frame m g,
    fun m g _ => Tables.reference_frame m g,
    fun m g _ => Tables.reference_frame m g,
    fun m g _ => Tables.reference_frame m g,
    fun m g _ => Tables.reference_frame m g,
    fun m g _ => Tables.reference_frame m g,
    fun m g _ => Tables.reference_frame m g,
    fun m g _ => Tables.reference_frame m g,
    fun m g _ => Tables.reference_frame m g,
    fun m g _ => Tables.reference_frame m g,
    fun m g _ => Tables.reference_frame m g,
    fun m g _ => Tables.reference_frame m g,
    fun m g _ => Tables.reference_frame m g,
    fun m g _ => Tables.reference_frame m g,
    fun m g _ => Tables.reference_frame m g,
    fun m g _ => Tables.reference_frame m g,
    fun m g _ => Tables.reference_frame m g,
    fun m g _ => Tables.reference_frame m g,
    fun m g _ => Tables.reference_frame m g,
    fun m g _ => Tables.reference_frame m g,
    fun m g _ => Tables.reference_frame m g,
    IdealRules.named_const.statement Cert.KernelIdeal.κ "inv127" .f32 0x3C010204#32 ((1/127 : ℝ) : EReal) rfl,
    agree (lit := Cert.Pre_pi_is_0123_Kernel.lit0) (by decide),
    agree (lit := Cert.Pre_pi_is_0132_Kernel.lit0) (by decide),
    agree (lit := Cert.Pre_pi_is_0213_Kernel.lit0) (by decide),
    agree (lit := Cert.Pre_pi_is_0231_Kernel.lit0) (by decide),
    agree (lit := Cert.Pre_pi_is_0312_Kernel.lit0) (by decide),
    agree (lit := Cert.Pre_pi_is_0321_Kernel.lit0) (by decide),
    agree (lit := Cert.Pre_pi_is_1023_Kernel.lit0) (by decide),
    agree (lit := Cert.Pre_pi_is_1032_Kernel.lit0) (by decide),
    agree (lit := Cert.Pre_pi_is_1203_Kernel.lit0) (by decide),
    agree (lit := Cert.Pre_pi_is_1230_Kernel.lit0) (by decide),
    agree (lit := Cert.Pre_pi_is_1302_Kernel.lit0) (by decide),
    agree (lit := Cert.Pre_pi_is_1320_Kernel.lit0) (by decide),
    agree (lit := Cert.Pre_pi_is_2013_Kernel.lit0) (by decide),
    agree (lit := Cert.Pre_pi_is_2031_Kernel.lit0) (by decide),
    agree (lit := Cert.Pre_pi_is_2103_Kernel.lit0) (by decide),
    agree (lit := Cert.Pre_pi_is_2130_Kernel.lit0) (by decide),
    agree (lit := Cert.Pre_pi_is_2301_Kernel.lit0) (by decide),
    agree (lit := Cert.Pre_pi_is_2310_Kernel.lit0) (by decide),
    agree (lit := Cert.Pre_pi_is_3012_Kernel.lit0) (by decide),
    agree (lit := Cert.Pre_pi_is_3021_Kernel.lit0) (by decide),
    agree (lit := Cert.Pre_pi_is_3102_Kernel.lit0) (by decide),
    agree (lit := Cert.Pre_pi_is_3120_Kernel.lit0) (by decide),
    agree (lit := Cert.Pre_pi_is_3201_Kernel.lit0) (by decide),
    agree (lit := Cert.Pre_pi_is_3210_Kernel.lit0) (by decide)⟩

end Cert.Proof

end
